-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S128x50 : Shape := ⟨2, ![128, 50]⟩
abbrev S1000x256 : Shape := ⟨2, ![1000, 256]⟩
abbrev S2048x256 : Shape := ⟨2, ![2048, 256]⟩
abbrev S2048x512 : Shape := ⟨2, ![2048, 512]⟩
abbrev S2048 : Shape := ⟨1, ![2048]⟩
abbrev S1000x512 : Shape := ⟨2, ![1000, 512]⟩
abbrev S1000 : Shape := ⟨1, ![1000]⟩
abbrev S_ : Shape := ⟨0, ![]⟩

class Facts : Prop where
  bcast_S_S128x50 : S_.BroadcastsInDim S128x50 (![] : Fin 0 → Fin S128x50.rank)

variable [Facts]

def fn {F : FTy → Type} [FloatOps F] (main_arg0 : IVec S128x50 32) (main_arg1 : FVec F S1000x256 .f32) (main_arg2 : FVec F S2048x256 .f32) (main_arg3 : FVec F S2048x512 .f32) (main_arg4 : FVec F S2048 .f32) (main_arg5 : FVec F S2048 .f32) (main_arg6 : FVec F S2048x512 .f32) (main_arg7 : FVec F S2048x512 .f32) (main_arg8 : FVec F S2048 .f32) (main_arg9 : FVec F S2048 .f32) (main_arg10 : FVec F S2048x512 .f32) (main_arg11 : FVec F S2048x512 .f32) (main_arg12 : FVec F S2048 .f32) (main_arg13 : FVec F S2048 .f32) (main_arg14 : FVec F S1000x512 .f32) (main_arg15 : FVec F S1000 .f32) : IVec S128x50 1 :=
  let main_c : IVec S_ 32 := constantI S_ 32 0#32
  let main_v0 : IVec S128x50 32 := broadcastInDim S128x50 ![] bcast_S_S128x50 main_c
  let main_v1 : IVec S128x50 1 := cmpi .sge main_arg0 main_v0
  let main_c_0 : IVec S_ 32 := constantI S_ 32 1000#32
  let main_v2 : IVec S128x50 32 := broadcastInDim S128x50 ![] bcast_S_S128x50 main_c_0
  let main_v3 : IVec S128x50 1 := cmpi .slt main_arg0 main_v2
  let main_v4 : IVec S128x50 1 := andi main_v1 main_v3
  main_v4
-- ==== Kernel.lean ====
abbrev S128x50 : Shape := ⟨2, ![128, 50]⟩
abbrev S1000x256 : Shape := ⟨2, ![1000, 256]⟩
abbrev S2048x256 : Shape := ⟨2, ![2048, 256]⟩
abbrev S2048x512 : Shape := ⟨2, ![2048, 512]⟩
abbrev S2048 : Shape := ⟨1, ![2048]⟩
abbrev S1000x512 : Shape := ⟨2, ![1000, 512]⟩
abbrev S1000 : Shape := ⟨1, ![1000]⟩
abbrev S50x128 : Shape := ⟨2, ![50, 128]⟩
abbrev S6400 : Shape := ⟨1, ![6400]⟩
abbrev S1000x2x128 : Shape := ⟨3, ![1000, 2, 128]⟩
abbrev S6400x2x128 : Shape := ⟨3, ![6400, 2, 128]⟩
abbrev S200 : Shape := ⟨1, ![200]⟩
abbrev S200x2x128 : Shape := ⟨3, ![200, 2, 128]⟩
abbrev S_ : Shape := ⟨0, ![]⟩
abbrev S50x128x256 : Shape := ⟨3, ![50, 128, 256]⟩
abbrev S256x2048 : Shape := ⟨2, ![256, 2048]⟩
abbrev S512x2048 : Shape := ⟨2, ![512, 2048]⟩
abbrev S1x2048 : Shape := ⟨2, ![1, 2048]⟩
abbrev S512x1000 : Shape := ⟨2, ![512, 1000]⟩
abbrev S1x1000 : Shape := ⟨2, ![1, 1000]⟩
abbrev S50x128x1000 : Shape := ⟨3, ![50, 128, 1000]⟩
abbrev S3x128x512 : Shape := ⟨3, ![3, 128, 512]⟩
abbrev S1x128x256 : Shape := ⟨3, ![1, 128, 256]⟩
abbrev S1x128x1000 : Shape := ⟨3, ![1, 128, 1000]⟩
abbrev S128x512 : Shape := ⟨2, ![128, 512]⟩
abbrev S128x1000 : Shape := ⟨2, ![128, 1000]⟩
abbrev S128x256 : Shape := ⟨2, ![128, 256]⟩
abbrev S128x2048 : Shape := ⟨2, ![128, 2048]⟩
abbrev S1x128x512 : Shape := ⟨3, ![1, 128, 512]⟩
abbrev S128x50x1000 : Shape := ⟨3, ![128, 50, 1000]⟩

abbrev nBuf : Table → Nat
  | .hbm => 49
  | .local .tc .vmem => 23
  | .local .scVector .vmem => 2
  | _ => 0

abbrev bufTy : (tb : Table) → Fin (nBuf tb) → BufTy
  | .hbm, ⟨0, _⟩ => ⟨S128x50, .i32⟩
  | .hbm, ⟨1, _⟩ => ⟨S1000x256, .f32⟩
  | .hbm, ⟨2, _⟩ => ⟨S2048x256, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S2048x512, .f32⟩
  | .hbm, ⟨7, _⟩ => ⟨S2048x512, .f32⟩
  | .hbm, ⟨8, _⟩ => ⟨S2048, .f32⟩
  | .hbm, ⟨9, _⟩ => ⟨S2048, .f32⟩
  | .hbm, ⟨10, _⟩ => ⟨S2048x512, .f32⟩
  | .hbm, ⟨11, _⟩ => ⟨S2048x512, .f32⟩
  | .hbm, ⟨12, _⟩ => ⟨S2048, .f32⟩
  | .hbm, ⟨13, _⟩ => ⟨S2048, .f32⟩
  | .hbm, ⟨14, _⟩ => ⟨S1000x512, .f32⟩
  | .hbm, ⟨15, _⟩ => ⟨S1000, .f32⟩
  | .hbm, ⟨16, _⟩ => ⟨S50x128, .i32⟩
  | .hbm, ⟨17, _⟩ => ⟨S6400, .i32⟩
  | .hbm, ⟨18, _⟩ => ⟨S1000x256, .bf16⟩
  | .hbm, ⟨19, _⟩ => ⟨S1000x256, .f32⟩
  | .hbm, ⟨20, _⟩ => ⟨S1000x2x128, .f32⟩
  | .hbm, ⟨21, _⟩ => ⟨S6400x2x128, .f32⟩
  | .hbm, ⟨22, _⟩ => ⟨S6400x2x128, .bf16⟩
  | .hbm, ⟨23, _⟩ => ⟨S50x128x256, .bf16⟩
  | .hbm, ⟨24, _⟩ => ⟨S256x2048, .f32⟩
  | .hbm, ⟨25, _⟩ => ⟨S256x2048, .bf16⟩
  | .hbm, ⟨26, _⟩ => ⟨S512x2048, .f32⟩
  | .hbm, ⟨27, _⟩ => ⟨S512x2048, .bf16⟩
  | .hbm, ⟨28, _⟩ => ⟨S512x2048, .f32⟩
  | .hbm, ⟨29, _⟩ => ⟨S512x2048, .bf16⟩
  | .hbm, ⟨30, _⟩ => ⟨S512x2048, .f32⟩
  | .hbm, ⟨31, _⟩ => ⟨S512x2048, .bf16⟩
  | .hbm, ⟨32, _⟩ => ⟨S512x2048, .f32⟩
  | .hbm, ⟨33, _⟩ => ⟨S512x2048, .bf16⟩
  | .hbm, ⟨34, _⟩ => ⟨S512x2048, .f32⟩
  | .hbm, ⟨35, _⟩ => ⟨S512x2048, .bf16⟩
  | .hbm, ⟨36, _⟩ => ⟨S2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S512x1000, .f32⟩
  | .hbm, ⟨43, _⟩ => ⟨S512x1000, .bf16⟩
  | .hbm, ⟨44, _⟩ => ⟨S1x1000, .f32⟩
  | .hbm, ⟨45, _⟩ => ⟨S50x128x1000, .f32⟩
  | .hbm, ⟨46, _⟩ => ⟨S3x128x512, .f32⟩
  | .hbm, ⟨47, _⟩ => ⟨S3x128x512, .f32⟩
  | .hbm, ⟨48, _⟩ => ⟨S128x50x1000, .f32⟩
  | .local .tc .vmem, ⟨0, _⟩ => ⟨S1x128x256, .bf16⟩
  | .local .tc .vmem, ⟨1, _⟩ => ⟨S1x128x256, .bf16⟩
  | .local .tc .vmem, ⟨2, _⟩ => ⟨S256x2048, .bf16⟩
  | .local .tc .vmem, ⟨3, _⟩ => ⟨S512x2048, .bf16⟩
  | .local .tc .vmem, ⟨4, _⟩ => ⟨S1x2048, .f32⟩
  | .local .tc .vmem, ⟨5, _⟩ => ⟨S512x2048, .bf16⟩
  | .local .tc .vmem, ⟨6, _⟩ => ⟨S512x2048, .bf16⟩
  | .local .tc .vmem, ⟨7, _⟩ => ⟨S1x2048, .f32⟩
  | .local .tc .vmem, ⟨8, _⟩ => ⟨S512x2048, .bf16⟩
  | .local .tc .vmem, ⟨9, _⟩ => ⟨S512x2048, .bf16⟩
  | .local .tc .vmem, ⟨10, _⟩ => ⟨S1x2048, .f32⟩
  | .local .tc .vmem, ⟨11, _⟩ => ⟨S512x1000, .bf16⟩
  | .local .tc .vmem, ⟨12, _⟩ => ⟨S1x1000, .f32⟩
  | .local .tc .vmem, ⟨13, _⟩ => ⟨S1x128x1000, .f32⟩
  | .local .tc .vmem, ⟨14, _⟩ => ⟨S1x128x1000, .f32⟩
  | .local .tc .vmem, ⟨15, _⟩ => ⟨S3x128x512, .f32⟩
  | .local .tc .vmem, ⟨16, _⟩ => ⟨S3x128x512, .f32⟩
  | .local .tc .vmem, ⟨17, _⟩ => ⟨S128x512, .bf16⟩
  | .local .tc .vmem, ⟨18, _⟩ => ⟨S128x512, .f32⟩
  | .local .tc .vmem, ⟨19, _⟩ => ⟨S128x512, .bf16⟩
  | .local .tc .vmem, ⟨20, _⟩ => ⟨S128x512, .f32⟩
  | .local .tc .vmem, ⟨21, _⟩ => ⟨S128x512, .bf16⟩
  | .local .tc .vmem, ⟨22, _⟩ => ⟨S128x512, .f32⟩
  | .local .scVector .vmem, ⟨0, _⟩ => ⟨S200, .i32⟩
  | .local .scVector .vmem, ⟨1, _⟩ => ⟨S200x2x128, .f32⟩
  | _, _ => ⟨S128x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v30 : Ref sig .tc := ⟨.hbm, 48, rfl⟩
abbrev main_v4_scv : Ref sig .scVector := ⟨.hbm, 20, rfl⟩
abbrev main_v1_scv : Ref sig .scVector := ⟨.hbm, 17, rfl⟩
abbrev main_v5_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg12_0 : Ref sig .tc := ⟨.vmem, 13, rfl⟩
abbrev cc1_stg12_1 : Ref sig .tc := ⟨.vmem, 14, rfl⟩
abbrev cc1_stg13_0 : Ref sig .tc := ⟨.vmem, 15, rfl⟩
abbrev cc1_stg14_0 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc1_scratch4 : Ref sig .tc := ⟨.vmem, 21, rfl⟩
abbrev cc1_scratch5 : Ref sig .tc := ⟨.vmem, 22, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc1_sem12_1 : DmaSem sig := 17
abbrev cc1_sem13_0 : DmaSem sig := 18
abbrev cc1_sem14_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  ![v2.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_5_r1 : BitVec 32 := 0#32
  let c0_i32_6_r1 : BitVec 32 := 0#32
  ![v2.toNat, 0, 0]
abbrev grid1 : Pipeline.Grid := ⟨1, ![53], ![false]⟩

def k1_cond5 (i : grid1.Coords) : BitVec 1 :=
  let arg0 : BitVec 32 := BitVec.ofNat 32 (i 0).val
  let c52_i32 : BitVec 32 := 52#32
  let v106 : BitVec 1 := Scalar.cmpi .eq arg0 c52_i32
  let v107 : BitVec 32 := Scalar.extui v106
  let c0_i32_50 : BitVec 32 := 0#32
  let v108 : BitVec 1 := Scalar.cmpi .ne v107 c0_i32_50
  v108

def cc1_transform_0 (i : grid1.Coords) : Fin 3 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x1000 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1000 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x128x1000 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S3x128x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S3x128x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x50 : Shape := ⟨2, ![128, 50]⟩
abbrev S1000x256 : Shape := ⟨2, ![1000, 256]⟩
abbrev S2048x256 : Shape := ⟨2, ![2048, 256]⟩
abbrev S2048x512 : Shape := ⟨2, ![2048, 512]⟩
abbrev S2048 : Shape := ⟨1, ![2048]⟩
abbrev S1000x512 : Shape := ⟨2, ![1000, 512]⟩
abbrev S1000 : Shape := ⟨1, ![1000]⟩
abbrev S_ : Shape := ⟨0, ![]⟩
abbrev S128x50x1 : Shape := ⟨3, ![128, 50, 1]⟩
abbrev S128x50x256 : Shape := ⟨3, ![128, 50, 256]⟩
abbrev S50x128x256 : Shape := ⟨3, ![50, 128, 256]⟩
abbrev S128x512 : Shape := ⟨2, ![128, 512]⟩
abbrev S50x128x512 : Shape := ⟨3, ![50, 128, 512]⟩
abbrev S1x128x256 : Shape := ⟨3, ![1, 128, 256]⟩
abbrev S128x256 : Shape := ⟨2, ![128, 256]⟩
abbrev S256x2048 : Shape := ⟨2, ![256, 2048]⟩
abbrev S128x2048 : Shape := ⟨2, ![128, 2048]⟩
abbrev S1x2048 : Shape := ⟨2, ![1, 2048]⟩
abbrev S512x2048 : Shape := ⟨2, ![512, 2048]⟩
abbrev S1x128x512 : Shape := ⟨3, ![1, 128, 512]⟩
abbrev S128x50x512 : Shape := ⟨3, ![128, 50, 512]⟩
abbrev S6400x512 : Shape := ⟨2, ![6400, 512]⟩
abbrev S512x1000 : Shape := ⟨2, ![512, 1000]⟩
abbrev S6400x1000 : Shape := ⟨2, ![6400, 1000]⟩
abbrev S1x1000 : Shape := ⟨2, ![1, 1000]⟩
abbrev S128x50x1000 : Shape := ⟨3, ![128, 50, 1000]⟩
abbrev S3x128x512 : Shape := ⟨3, ![3, 128, 512]⟩

abbrev nBuf : Space → Nat
  | .hbm => 215
  | .vmem => 0
  | .smem => 0
  | _ => 0

abbrev hbmTy0_0 (i : Nat) : BufTy := match i % 128 with
  | 0 => ⟨S128x50, .i32⟩
  | 1 => ⟨S1000x256, .f32⟩
  | 2 => ⟨S2048x256, .f32⟩
  | 3 => ⟨S2048x512, .f32⟩
  | 4 => ⟨S2048, .f32⟩
  | 5 => ⟨S2048, .f32⟩
  | 6 => ⟨S2048x512, .f32⟩
  | 7 => ⟨S2048x512, .f32⟩
  | 8 => ⟨S2048, .f32⟩
  | 9 => ⟨S2048, .f32⟩
  | 10 => ⟨S2048x512, .f32⟩
  | 11 => ⟨S2048x512, .f32⟩
  | 12 => ⟨S2048, .f32⟩
  | 13 => ⟨S2048, .f32⟩
  | 14 => ⟨S1000x512, .f32⟩
  | 15 => ⟨S1000, .f32⟩
  | 16 => ⟨S_, .i32⟩
  | 17 => ⟨S128x50, .i32⟩
  | 18 => ⟨S128x50, .i1⟩
  | 19 => ⟨S_, .i32⟩
  | 20 => ⟨S128x50, .i32⟩
  | 21 => ⟨S128x50, .i32⟩
  | 22 => ⟨S128x50, .i32⟩
  | 23 => ⟨S128x50x1, .i32⟩
  | 24 => ⟨S128x50x256, .f32⟩
  | 25 => ⟨S50x128x256, .f32⟩
  | 26 => ⟨S_, .f32⟩
  | 27 => ⟨S128x512, .f32⟩
  | 28 => ⟨S_, .f32⟩
  | 29 => ⟨S50x128x512, .f32⟩
  | 30 => ⟨S_, .i32⟩
  | 31 => ⟨S50x128x256, .f32⟩
  | 32 => ⟨S2048x256, .f32⟩
  | 33 => ⟨S2048, .f32⟩
  | 34 => ⟨S2048x512, .f32⟩
  | 35 => ⟨S2048, .f32⟩
  | 36 => ⟨S2048x512, .f32⟩
  | 37 => ⟨S2048, .f32⟩
  | 38 => ⟨S2048x512, .f32⟩
  | 39 => ⟨S2048, .f32⟩
  | 40 => ⟨S2048x512, .f32⟩
  | 41 => ⟨S2048, .f32⟩
  | 42 => ⟨S2048x512, .f32⟩
  | 43 => ⟨S2048, .f32⟩
  | 44 => ⟨S_, .i32⟩
  | 45 => ⟨S128x512, .f32⟩
  | 46 => ⟨S128x512, .f32⟩
  | 47 => ⟨S128x512, .f32⟩
  | 48 => ⟨S128x512, .f32⟩
  | 49 => ⟨S128x512, .f32⟩
  | 50 => ⟨S128x512, .f32⟩
  | 51 => ⟨S50x128x512, .f32⟩
  | 52 => ⟨S_, .i32⟩
  | 53 => ⟨S_, .i1⟩
  | 54 => ⟨S_, .i32⟩
  | 55 => ⟨S_, .i32⟩
  | 56 => ⟨S1x128x256, .f32⟩
  | 57 => ⟨S128x256, .f32⟩
  | 58 => ⟨S256x2048, .f32⟩
  | 59 => ⟨S128x2048, .f32⟩
  | 60 => ⟨S1x2048, .f32⟩
  | 61 => ⟨S128x2048, .f32⟩
  | 62 => ⟨S128x2048, .f32⟩
  | 63 => ⟨S512x2048, .f32⟩
  | 64 => ⟨S128x2048, .f32⟩
  | 65 => ⟨S128x2048, .f32⟩
  | 66 => ⟨S1x2048, .f32⟩
  | 67 => ⟨S128x2048, .f32⟩
  | 68 => ⟨S128x2048, .f32⟩
  | 69 => ⟨S128x512, .f32⟩
  | 70 => ⟨S128x512, .f32⟩
  | 71 => ⟨S128x512, .f32⟩
  | 72 => ⟨S128x512, .f32⟩
  | 73 => ⟨S128x512, .f32⟩
  | 74 => ⟨S128x512, .f32⟩
  | 75 => ⟨S_, .f32⟩
  | 76 => ⟨S128x512, .f32⟩
  | 77 => ⟨S128x512, .f32⟩
  | 78 => ⟨S_, .f32⟩
  | 79 => ⟨S128x512, .f32⟩
  | 80 => ⟨S128x512, .f32⟩
  | 81 => ⟨S128x512, .f32⟩
  | 82 => ⟨S128x512, .f32⟩
  | 83 => ⟨S_, .f32⟩
  | 84 => ⟨S128x512, .f32⟩
  | 85 => ⟨S128x512, .f32⟩
  | 86 => ⟨S_, .f32⟩
  | 87 => ⟨S128x512, .f32⟩
  | 88 => ⟨S128x512, .f32⟩
  | 89 => ⟨S128x512, .f32⟩
  | 90 => ⟨S128x512, .f32⟩
  | 91 => ⟨S128x512, .f32⟩
  | 92 => ⟨S_, .f32⟩
  | 93 => ⟨S128x512, .f32⟩
  | 94 => ⟨S128x512, .f32⟩
  | 95 => ⟨S_, .f32⟩
  | 96 => ⟨S128x512, .f32⟩
  | 97 => ⟨S128x512, .f32⟩
  | 98 => ⟨S128x512, .f32⟩
  | 99 => ⟨S128x512, .f32⟩
  | 100 => ⟨S128x512, .f32⟩
  | 101 => ⟨S128x512, .f32⟩
  | 102 => ⟨S128x512, .f32⟩
  | 103 => ⟨S512x2048, .f32⟩
  | 104 => ⟨S128x2048, .f32⟩
  | 105 => ⟨S1x2048, .f32⟩
  | 106 => ⟨S128x2048, .f32⟩
  | 107 => ⟨S128x2048, .f32⟩
  | 108 => ⟨S512x2048, .f32⟩
  | 109 => ⟨S128x2048, .f32⟩
  | 110 => ⟨S128x2048, .f32⟩
  | 111 => ⟨S1x2048, .f32⟩
  | 112 => ⟨S128x2048, .f32⟩
  | 113 => ⟨S128x2048, .f32⟩
  | 114 => ⟨S128x512, .f32⟩
  | 115 => ⟨S128x512, .f32⟩
  | 116 => ⟨S128x512, .f32⟩
  | 117 => ⟨S128x512, .f32⟩
  | 118 => ⟨S128x512, .f32⟩
  | 119 => ⟨S128x512, .f32⟩
  | 120 => ⟨S_, .f32⟩
  | 121 => ⟨S128x512, .f32⟩
  | 122 => ⟨S128x512, .f32⟩
  | 123 => ⟨S_, .f32⟩
  | 124 => ⟨S128x512, .f32⟩
  | 125 => ⟨S128x512, .f32⟩
  | 126 => ⟨S128x512, .f32⟩
  | 127 => ⟨S128x512, .f32⟩
  | _ => ⟨S128x50, .i32⟩

abbrev hbmTy0_1 (i : Nat) : BufTy := match i % 128 with
  | 0 => ⟨S_, .f32⟩
  | 1 => ⟨S128x512, .f32⟩
  | 2 => ⟨S128x512, .f32⟩
  | 3 => ⟨S_, .f32⟩
  | 4 => ⟨S128x512, .f32⟩
  | 5 => ⟨S128x512, .f32⟩
  | 6 => ⟨S128x512, .f32⟩
  | 7 => ⟨S128x512, .f32⟩
  | 8 => ⟨S128x512, .f32⟩
  | 9 => ⟨S_, .f32⟩
  | 10 => ⟨S128x512, .f32⟩
  | 11 => ⟨S128x512, .f32⟩
  | 12 => ⟨S_, .f32⟩
  | 13 => ⟨S128x512, .f32⟩
  | 14 => ⟨S128x512, .f32⟩
  | 15 => ⟨S128x512, .f32⟩
  | 16 => ⟨S128x512, .f32⟩
  | 17 => ⟨S128x512, .f32⟩
  | 18 => ⟨S128x512, .f32⟩
  | 19 => ⟨S128x512, .f32⟩
  | 20 => ⟨S512x2048, .f32⟩
  | 21 => ⟨S128x2048, .f32⟩
  | 22 => ⟨S1x2048, .f32⟩
  | 23 => ⟨S128x2048, .f32⟩
  | 24 => ⟨S128x2048, .f32⟩
  | 25 => ⟨S512x2048, .f32⟩
  | 26 => ⟨S128x2048, .f32⟩
  | 27 => ⟨S128x2048, .f32⟩
  | 28 => ⟨S1x2048, .f32⟩
  | 29 => ⟨S128x2048, .f32⟩
  | 30 => ⟨S128x2048, .f32⟩
  | 31 => ⟨S128x512, .f32⟩
  | 32 => ⟨S128x512, .f32⟩
  | 33 => ⟨S128x512, .f32⟩
  | 34 => ⟨S128x512, .f32⟩
  | 35 => ⟨S128x512, .f32⟩
  | 36 => ⟨S128x512, .f32⟩
  | 37 => ⟨S_, .f32⟩
  | 38 => ⟨S128x512, .f32⟩
  | 39 => ⟨S128x512, .f32⟩
  | 40 => ⟨S_, .f32⟩
  | 41 => ⟨S128x512, .f32⟩
  | 42 => ⟨S128x512, .f32⟩
  | 43 => ⟨S128x512, .f32⟩
  | 44 => ⟨S128x512, .f32⟩
  | 45 => ⟨S_, .f32⟩
  | 46 => ⟨S128x512, .f32⟩
  | 47 => ⟨S128x512, .f32⟩
  | 48 => ⟨S_, .f32⟩
  | 49 => ⟨S128x512, .f32⟩
  | 50 => ⟨S128x512, .f32⟩
  | 51 => ⟨S128x512, .f32⟩
  | 52 => ⟨S128x512, .f32⟩
  | 53 => ⟨S128x512, .f32⟩
  | 54 => ⟨S_, .f32⟩
  | 55 => ⟨S128x512, .f32⟩
  | 56 => ⟨S128x512, .f32⟩
  | 57 => ⟨S_, .f32⟩
  | 58 => ⟨S128x512, .f32⟩
  | 59 => ⟨S128x512, .f32⟩
  | 60 => ⟨S128x512, .f32⟩
  | 61 => ⟨S128x512, .f32⟩
  | 62 => ⟨S128x512, .f32⟩
  | 63 => ⟨S128x512, .f32⟩
  | 64 => ⟨S128x512, .f32⟩
  | 65 => ⟨S1x128x512, .f32⟩
  | 66 => ⟨S_, .i32⟩
  | 67 => ⟨S_, .i32⟩
  | 68 => ⟨S50x128x512, .f32⟩
  | 69 => ⟨S_, .i32⟩
  | 70 => ⟨S_, .i32⟩
  | 71 => ⟨S128x50x512, .f32⟩
  | 72 => ⟨S6400x512, .f32⟩
  | 73 => ⟨S512x1000, .f32⟩
  | 74 => ⟨S6400x1000, .f32⟩
  | 75 => ⟨S1x1000, .f32⟩
  | 76 => ⟨S6400x1000, .f32⟩
  | 77 => ⟨S6400x1000, .f32⟩
  | 78 => ⟨S128x50x1000, .f32⟩
  | 79 => ⟨S1x128x512, .f32⟩
  | 80 => ⟨S1x128x512, .f32⟩
  | 81 => ⟨S1x128x512, .f32⟩
  | 82 => ⟨S3x128x512, .f32⟩
  | 83 => ⟨S1x128x512, .f32⟩
  | 84 => ⟨S1x128x512, .f32⟩
  | 85 => ⟨S1x128x512, .f32⟩
  | 86 => ⟨S3x128x512, .f32⟩
  | _ => ⟨S128x50, .i32⟩

abbrev hbmTy (i : Nat) : BufTy := match i / 128 with
  | 0 => hbmTy0_0 i
  | 1 => hbmTy0_1 i
  | _ => ⟨S128x50, .i32⟩

abbrev bufTy : (tb : Table) → Fin (tcTables nBuf tb) → BufTy
  | .hbm, ⟨i, _⟩ => hbmTy i
  | _, _ => ⟨S128x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_c_2 : Ref sig .tc := ⟨.hbm, 30, rfl⟩
abbrev main_v10_0 : Ref sig .tc := ⟨.hbm, 31, rfl⟩
abbrev main_v10_1 : Ref sig .tc := ⟨.hbm, 32, rfl⟩
abbrev main_v10_2 : Ref sig .tc := ⟨.hbm, 33, rfl⟩
abbrev main_v10_3 : Ref sig .tc := ⟨.hbm, 34, rfl⟩
abbrev main_v10_4 : Ref sig .tc := ⟨.hbm, 35, rfl⟩
abbrev main_v10_5 : Ref sig .tc := ⟨.hbm, 36, rfl⟩
abbrev main_v10_6 : Ref sig .tc := ⟨.hbm, 37, rfl⟩
abbrev main_v10_7 : Ref sig .tc := ⟨.hbm, 38, rfl⟩
abbrev main_v10_8 : Ref sig .tc := ⟨.hbm, 39, rfl⟩
abbrev main_v10_9 : Ref sig .tc := ⟨.hbm, 40, rfl⟩
abbrev main_v10_10 : Ref sig .tc := ⟨.hbm, 41, rfl⟩
abbrev main_v10_11 : Ref sig .tc := ⟨.hbm, 42, rfl⟩
abbrev main_v10_12 : Ref sig .tc := ⟨.hbm, 43, rfl⟩
abbrev main_v10_13 : Ref sig .tc := ⟨.hbm, 44, rfl⟩
abbrev main_v10_14 : Ref sig .tc := ⟨.hbm, 45, rfl⟩
abbrev main_v10_15 : Ref sig .tc := ⟨.hbm, 46, rfl⟩
abbrev main_v10_16 : Ref sig .tc := ⟨.hbm, 47, rfl⟩
abbrev main_v10_17 : Ref sig .tc := ⟨.hbm, 48, rfl⟩
abbrev main_v10_18 : Ref sig .tc := ⟨.hbm, 49, rfl⟩
abbrev main_v10_19 : Ref sig .tc := ⟨.hbm, 50, rfl⟩
abbrev main_v10_20 : Ref sig .tc := ⟨.hbm, 51, rfl⟩
abbrev main_while0c_c_23 : Ref sig .tc := ⟨.hbm, 52, rfl⟩
abbrev main_while0c_v27 : Ref sig .tc := ⟨.hbm, 53, rfl⟩
abbrev main_while0b_call0_c : Ref sig .tc := ⟨.hbm, 54, rfl⟩
abbrev main_while0b_call0_c_0 : Ref sig .tc := ⟨.hbm, 55, rfl⟩
abbrev main_while0b_call0_v0 : Ref sig .tc := ⟨.hbm, 56, rfl⟩
abbrev main_while0b_v27 : Ref sig .tc := ⟨.hbm, 57, rfl⟩
abbrev main_while0b_v28 : Ref sig .tc := ⟨.hbm, 58, rfl⟩
abbrev main_while0b_v29 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_cst_23 : Ref sig .tc := ⟨.hbm, 75, rfl⟩
abbrev main_while0b_v45 : Ref sig .tc := ⟨.hbm, 76, rfl⟩
abbrev main_while0b_v46 : Ref sig .tc := ⟨.hbm, 77, rfl⟩
abbrev main_while0b_cst_24 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_cst_25 : Ref sig .tc := ⟨.hbm, 83, rfl⟩
abbrev main_while0b_v51 : Ref sig .tc := ⟨.hbm, 84, rfl⟩
abbrev main_while0b_v52 : Ref sig .tc := ⟨.hbm, 85, rfl⟩
abbrev main_while0b_cst_26 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_cst_27 : Ref sig .tc := ⟨.hbm, 92, rfl⟩
abbrev main_while0b_v58 : Ref sig .tc := ⟨.hbm, 93, rfl⟩
abbrev main_while0b_v59 : Ref sig .tc := ⟨.hbm, 94, rfl⟩
abbrev main_while0b_cst_28 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_v76 : Ref sig .tc := ⟨.hbm, 112, rfl⟩
abbrev main_while0b_v77 : Ref sig .tc := ⟨.hbm, 113, rfl⟩
abbrev main_while0b_v78 : Ref sig .tc := ⟨.hbm, 114, rfl⟩
abbrev main_while0b_v79 : Ref sig .tc := ⟨.hbm, 115, rfl⟩
abbrev main_while0b_v80 : Ref sig .tc := ⟨.hbm, 116, rfl⟩
abbrev main_while0b_v81 : Ref sig .tc := ⟨.hbm, 117, rfl⟩
abbrev main_while0b_v82 : Ref sig .tc := ⟨.hbm, 118, rfl⟩
abbrev main_while0b_v83 : Ref sig .tc := ⟨.hbm, 119, rfl⟩
abbrev main_while0b_cst_29 : Ref sig .tc := ⟨.hbm, 120, rfl⟩
abbrev main_while0b_v84 : Ref sig .tc := ⟨.hbm, 121, rfl⟩
abbrev main_while0b_v85 : Ref sig .tc := ⟨.hbm, 122, rfl⟩
abbrev main_while0b_cst_30 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_cst_31 : Ref sig .tc := ⟨.hbm, 128, rfl⟩
abbrev main_while0b_v90 : Ref sig .tc := ⟨.hbm, 129, rfl⟩
abbrev main_while0b_v91 : Ref sig .tc := ⟨.hbm, 130, rfl⟩
abbrev main_while0b_cst_32 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_v95 : Ref sig .tc := ⟨.hbm, 135, rfl⟩
abbrev main_while0b_v96 : Ref sig .tc := ⟨.hbm, 136, rfl⟩
abbrev main_while0b_cst_33 : Ref sig .tc := ⟨.hbm, 137, rfl⟩
abbrev main_while0b_v97 : Ref sig .tc := ⟨.hbm, 138, rfl⟩
abbrev main_while0b_v98 : Ref sig .tc := ⟨.hbm, 139, rfl⟩
abbrev main_while0b_cst_34 : Ref sig .tc := ⟨.hbm, 140, rfl⟩
abbrev main_while0b_v99 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_v114 : Ref sig .tc := ⟨.hbm, 156, rfl⟩
abbrev main_while0b_v115 : Ref sig .tc := ⟨.hbm, 157, rfl⟩
abbrev main_while0b_v116 : Ref sig .tc := ⟨.hbm, 158, rfl⟩
abbrev main_while0b_v117 : Ref sig .tc := ⟨.hbm, 159, rfl⟩
abbrev main_while0b_v118 : Ref sig .tc := ⟨.hbm, 160, rfl⟩
abbrev main_while0b_v119 : Ref sig .tc := ⟨.hbm, 161, rfl⟩
abbrev main_while0b_v120 : Ref sig .tc := ⟨.hbm, 162, rfl⟩
abbrev main_while0b_v121 : Ref sig .tc := ⟨.hbm, 163, rfl⟩
abbrev main_while0b_v122 : Ref sig .tc := ⟨.hbm, 164, rfl⟩
abbrev main_while0b_cst_35 : Ref sig .tc := ⟨.hbm, 165, rfl⟩
abbrev main_while0b_v123 : Ref sig .tc := ⟨.hbm, 166, rfl⟩
abbrev main_while0b_v124 : Ref sig .tc := ⟨.hbm, 167, rfl⟩
abbrev main_while0b_cst_36 : Ref sig .tc := ⟨.hbm, 168, rfl⟩
abbrev main_while0b_v125 : Ref sig .tc := ⟨.hbm, 169, rfl⟩
abbrev main_while0b_v126 : Ref sig .tc := ⟨.hbm, 170, rfl⟩
abbrev main_while0b_v127 : Ref sig .tc := ⟨.hbm, 171, rfl⟩
abbrev main_while0b_v128 : Ref sig .tc := ⟨.hbm, 172, rfl⟩
abbrev main_while0b_cst_37 : Ref sig .tc := ⟨.hbm, 173, rfl⟩
abbrev main_while0b_v129 : Ref sig .tc := ⟨.hbm, 174, rfl⟩
abbrev main_while0b_v130 : Ref sig .tc := ⟨.hbm, 175, rfl⟩
abbrev main_while0b_cst_38 : Ref sig .tc := ⟨.hbm, 176, rfl⟩
abbrev main_while0b_v131 : Ref sig .tc := ⟨.hbm, 177, rfl⟩
abbrev main_while0b_v132 : Ref sig .tc := ⟨.hbm, 178, rfl⟩
abbrev main_while0b_v133 : Ref sig .tc := ⟨.hbm, 179, rfl⟩
abbrev main_while0b_v134 : Ref sig .tc := ⟨.hbm, 180, rfl⟩
abbrev main_while0b_v135 : Ref sig .tc := ⟨.hbm, 181, rfl⟩
abbrev main_while0b_cst_39 : Ref sig .tc := ⟨.hbm, 182, rfl⟩
abbrev main_while0b_v136 : Ref sig .tc := ⟨.hbm, 183, rfl⟩
abbrev main_while0b_v137 : Ref sig .tc := ⟨.hbm, 184, rfl⟩
abbrev main_while0b_cst_40 : Ref sig .tc := ⟨.hbm, 185, rfl⟩
abbrev main_while0b_v138 : Ref sig .tc := ⟨.hbm, 186, rfl⟩
abbrev main_while0b_v139 : Ref sig .tc := ⟨.hbm, 187, rfl⟩
abbrev main_while0b_v140 : Ref sig .tc := ⟨.hbm, 188, rfl⟩
abbrev main_while0b_v141 : Ref sig .tc := ⟨.hbm, 189, rfl⟩
abbrev main_while0b_v142 : Ref sig .tc := ⟨.hbm, 190, rfl⟩
abbrev main_while0b_v143 : Ref sig .tc := ⟨.hbm, 191, rfl⟩
abbrev main_while0b_v144 : Ref sig .tc := ⟨.hbm, 192, rfl⟩
abbrev main_while0b_call1_v0 : Ref sig .tc := ⟨.hbm, 193, rfl⟩
abbrev main_while0b_call1_c : Ref sig .tc := ⟨.hbm, 194, rfl⟩
abbrev main_while0b_call1_c_0 : Ref sig .tc := ⟨.hbm, 195, rfl⟩
abbrev main_while0b_v145 : Ref sig .tc := ⟨.hbm, 196, rfl⟩
abbrev main_while0b_c_41 : Ref sig .tc := ⟨.hbm, 197, rfl⟩
abbrev main_while0b_v146 : Ref sig .tc := ⟨.hbm, 198, rfl⟩
abbrev main_v11 : Ref sig .tc := ⟨.hbm, 199, rfl⟩
abbrev main_v12 : Ref sig .tc := ⟨.hbm, 200, rfl⟩
abbrev main_v13 : Ref sig .tc := ⟨.hbm, 201, rfl⟩
abbrev main_v14 : Ref sig .tc := ⟨.hbm, 202, rfl⟩
abbrev main_v15 : Ref sig .tc := ⟨.hbm, 203, rfl⟩
abbrev main_v16 : Ref sig .tc := ⟨.hbm, 204, rfl⟩
abbrev main_v17 : Ref sig .tc := ⟨.hbm, 205, rfl⟩
abbrev main_v18 : Ref sig .tc := ⟨.hbm, 206, rfl⟩
abbrev main_v19 : Ref sig .tc := ⟨.hbm, 207, rfl⟩
abbrev main_v20 : Ref sig .tc := ⟨.hbm, 208, rfl⟩
abbrev main_v21 : Ref sig .tc := ⟨.hbm, 209, rfl⟩
abbrev main_v22 : Ref sig .tc := ⟨.hbm, 210, rfl⟩
abbrev main_v23 : Ref sig .tc := ⟨.hbm, 211, rfl⟩
abbrev main_v24 : Ref sig .tc := ⟨.hbm, 212, rfl⟩
abbrev main_v25 : Ref sig .tc := ⟨.hbm, 213, rfl⟩
abbrev main_v26 : Ref sig .tc := ⟨.hbm, 214, rfl⟩

abbrev nD : Nat := 1
abbrev τ : Topo := Topo.v7x

variable {F : FTy → Type} [FloatOps F]

abbrev main_while0_count : Scf.Loop 32 := ⟨0#32, 50#32, 1#32⟩
-- ==== Proof.Base.lean ====
/-
  The program as the launch theorem for SparseCore programs sees it: the calls' configuration, the kernels' body table,
  the resource algebra (the SparseCore handshakes, the TensorCore pipeline's transfers, the counters of the local
  transfers) and its launch element.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.ValueKit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The calls and the bodies -/

/-- The labels the SparseCore calls extend: the TensorCore pipeline's. -/
abbrev ΛP : Labels := Pipeline.Sig Λ₀ (Fin 1) fun p => (pcfgs (F := F) p).Adm
/-- The SparseCore calls of the program: one. -/
abbrev K : SparseCore.Cfg τ sig (ΛP (F := F)) 1 := sc (F := F)
/-- The body table below the SparseCore calls: the two kernels' bodies and the pipeline's region. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

/-- The launch's side conditions on the handshakes' semaphores, by computation. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds; -/
abbrev UH : Type := URounds (GSem nD τ sig) ℕ
/-- the pipeline's rounds; -/
abbrev UR : Type := URounds (GSem nD τ sig) Unit
/-- the two, beside the counters of the tiles' own transfers. -/
abbrev UU : Type := UH × (UR × Counters)

/-- The machine's algebra with those components. -/
abbrev MM (F : FTy → Type) : Type := MT nD τ sig (HIx 1) (Elt F) ℕ UU ℕ

/-- The handshakes' component; -/
abbrev EH : Emb UH (MT nD τ sig (HIx 1) (Elt F) ℕ UU ℕ) := embL
/-- the pipeline's. -/
def EP : Emb UR (MT nD τ sig (HIx 1) (Elt F) ℕ UU ℕ) :=
  (Emb.inl : Emb UR (UR × Counters)).trans (embR (nD := nD) (τ := τ) (sig := sig) (Ix := HIx 1) (Val := Elt F) (Name := ℕ) (A := UH) (B := UR × Counters) (Lvl := ℕ))

instance EP_landsIn : (EP (F := F)).LandsIn (upEmb : UEmb _ (MM F)) := by unfold EP; infer_instance

/-- What the launch deals: the handshakes' cells and tokens, the pipeline's cells and tokens, no counter yet. -/
def u₀ : UU := (initOf (K (F := F)).hsCells (K (F := F)).hsToks, (initOf (Pipeline.cells cfgs cellOf_inj) (Pipeline.launchToks cfgs cellOf_inj), 1))

/-- The launch element is its two rounds components, each through its embedding. -/
theorem ownU_u₀ : (ownU (u₀ (F := F)) : sProp (MM F))
    ⊢ iprop(BI.own (EH (initOf (K (F := F)).hsCells (K (F := F)).hsToks)) ∗ BI.own (EP (F := F) (initOf (Pipeline.cells cfgs cellOf_inj) (Pipeline.launchToks cfgs cellOf_inj)))) := by
  unfold u₀
  exact ownU_pair _ _

end Cert.Proof.Whole

end
-- ==== Proof.Point.lean ====
/-
  One grid point of the TensorCore kernel, as a function of what its buffers hold when the point starts.
-/
module

public import proofs.«01_k».proof.Proof.Base
public import Idealize.ShloMosaic.Lib.VecWindow
public import Idealize.ShloMosaic.Lib.Pipeline.ValueKit.Stack

@[expose] public section

noncomputable section

namespace Cert.Proof.Whole

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The point's values -/

/-- The six scratch buffers: each layer's hidden and cell state. -/
structure WSt (F : FTy → Type) where
  h0 : Vec F S128x512 .bf16
  c0 : Vec F S128x512 .f32
  h1 : Vec F S128x512 .bf16
  c1 : Vec F S128x512 .f32
  h2 : Vec F S128x512 .bf16
  c2 : Vec F S128x512 .f32

/-- The weights and biases: the blocks of windows 1 to 11. -/
structure Wts (F : FTy → Type) where
  wi0 : Vec F S256x2048 .bf16
  wh0 : Vec F S512x2048 .bf16
  b0 : Vec F S1x2048 .f32
  wi1 : Vec F S512x2048 .bf16
  wh1 : Vec F S512x2048 .bf16
  b1 : Vec F S1x2048 .f32
  wi2 : Vec F S512x2048 .bf16
  wh2 : Vec F S512x2048 .bf16
  b2 : Vec F S1x2048 .f32
  wl : Vec F S512x1000 .bf16
  bl : Vec F S1x1000 .f32

/-- The states the point reads: zero at the first point, else what the scratch buffers hold. -/
def entry (w : ℕ) (S : WSt F) : WSt F := if w = 0 then ⟨k1_pay17, k1_pay18, k1_pay19, k1_pay20, k1_pay21, k1_pay22⟩ else S

/-- The second layer's gates; -/
def gates1 (A : Wts F) (E : WSt F) : FVec F S128x2048 .f32 := k1_pay27 E.h0 E.h1 A.wi1 A.wh1 A.b1
/-- the third layer's. -/
def gates2 (A : Wts F) (E : WSt F) : FVec F S128x2048 .f32 := k1_pay28 E.h1 E.h2 A.wi2 A.wh2 A.b2
/-- The first layer's new hidden state; -/
def newH0 (A : Wts F) (x : Vec F S1x128x256 .bf16) (E : WSt F) : FVec F S128x512 .bf16 :=
  k1_pay3 (k1_pay30 E.h0 E.c0 (k1_pay24 x A.wi0) (k1_pay25 A.wh0) (constant S128x2048 .f32 0x00000000#32) A.b0)
/-- its new cell state. -/
def newC0 (A : Wts F) (x : Vec F S1x128x256 .bf16) (E : WSt F) : FVec F S128x512 .f32 :=
  k1_pay4 (k1_pay29 E.h0 E.c0 (k1_pay24 x A.wi0) (k1_pay25 A.wh0) (constant S128x2048 .f32 0x00000000#32) A.b0)
/-- The second layer's; -/
def newH1 (A : Wts F) (E : WSt F) : FVec F S128x512 .bf16 := k1_pay5 E.c1 (gates1 A E) (k1_pay31 E.h0 E.h1 A.wi1 A.wh1 A.b1)
def newC1 (A : Wts F) (E : WSt F) : FVec F S128x512 .f32 := k1_pay6 E.c1 (gates1 A E) (k1_pay31 E.h0 E.h1 A.wi1 A.wh1 A.b1)
/-- the third layer's. -/
def newH2 (A : Wts F) (E : WSt F) : FVec F S128x512 .bf16 := k1_pay7 E.c2 (gates2 A E)
def newC2 (A : Wts F) (E : WSt F) : FVec F S128x512 .f32 := k1_pay8 E.c2 (gates2 A E)

/-- What point `w` leaves in the scratch buffers: layer `l` advances while `l ≤ w ≤ l + 49`. -/
def stepW (A : Wts F) (w : ℕ) (x : Vec F S1x128x256 .bf16) (S : WSt F) : WSt F where
  h0 := if w < 50 then newH0 A x (entry w S) else (entry w S).h0
  c0 := if w < 50 then newC0 A x (entry w S) else (entry w S).c0
  h1 := if 1 ≤ w ∧ w ≤ 50 then newH1 A (entry w S) else (entry w S).h1
  c1 := if 1 ≤ w ∧ w ≤ 50 then newC1 A (entry w S) else (entry w S).c1
  h2 := if 2 ≤ w ∧ w ≤ 51 then newH2 A (entry w S) else (entry w S).h2
  c2 := if 2 ≤ w ∧ w ≤ 51 then newC2 A (entry w S) else (entry w S).c2

/-- The projection the point stores: of the third layer's hidden state as the point finds it. -/
def projW (A : Wts F) (w : ℕ) (S : WSt F) : FVec F S1x128x1000 .f32 := k1_pay23 (entry w S).h2 A.wl A.bl

/-- Three arrays by their number. -/
def pick3 (a b c : FVec F S128x512 .f32) : Fin 3 → FVec F S128x512 .f32 := fun g => match g with | 0 => a | 1 => b | 2 => c
/-- Three states as one array. -/
def stack3 (a b c : FVec F S128x512 .f32) : FVec F S3x128x512 .f32 :=
  stackAlong0 (G := 3) (r := 2) (d := ![128, 512]) (pick3 a b c)
/-- The last point's hidden states; -/
def hnW (w : ℕ) (S : WSt F) : FVec F S3x128x512 .f32 :=
  stack3 (extf .f32 (entry w S).h0 bitsLt_bf16_f32) (extf .f32 (entry w S).h1 bitsLt_bf16_f32) (extf .f32 (entry w S).h2 bitsLt_bf16_f32)
/-- its cell states. -/
def cnW (w : ℕ) (S : WSt F) : FVec F S3x128x512 .f32 := stack3 (entry w S).c0 (entry w S).c1 (entry w S).c2

/-- An element outside the last write reads as before it. -/
theorem read_cons_of_not_mem {κ : Kind} {sp : Space} {S : Shape} {e : EltTy} (v : View sig κ sp S e) (f : v.ty.Contents (Elt F)) (p : View.Piece (Elt F) S e)
    (L : List (View.Piece (Elt F) S e)) (y : S.Idx) (h : y ∉ p.1.set) : v.read (Elt F) (v.writes (Elt F) f (p :: L)) y = v.read (Elt F) (v.writes (Elt F) f L) y := by
  rw [View.writes_cons]
  exact View.read_slice_write_of_not_mem p.1 _ _ _ (by rw [Rect.map_emb_univ]; exact h)

/-- Three states stored slice by slice are the three as one array. -/
theorem read_stack3 {κ : Kind} {sp : Space} (v : View sig κ sp S3x128x512 .f32) (f : v.ty.Contents (Elt F)) (a b c : FVec F S128x512 .f32) :
    v.read (Elt F) (v.writes (Elt F) f
        [⟨Rect.unit (s := S3x128x512) ![2, 0, 0] S1x128x512.size inb_S3x128x512_S1x128x512_2_0_0, shapeCast S1x128x512 c shapeCasts_S128x512_S1x128x512⟩,
          ⟨Rect.unit (s := S3x128x512) ![1, 0, 0] S1x128x512.size inb_S3x128x512_S1x128x512_1_0_0, shapeCast S1x128x512 b shapeCasts_S128x512_S1x128x512⟩,
          ⟨Rect.unit (s := S3x128x512) ![0, 0, 0] S1x128x512.size inb_S3x128x512_S1x128x512_0_0_0, shapeCast S1x128x512 a shapeCasts_S128x512_S1x128x512⟩])
      = stack3 a b c := by
  have piece : ∀ (g : Fin 3) (off : Fin 3 → ℕ) (inb : ∀ k, off k + S1x128x512.size k ≤ S3x128x512.size k) (_ : off 0 = g.val) (_ : ∀ k : Fin 2, off k.succ = 0)
      (x : S1x128x512.Idx),
      shapeCast S1x128x512 (pick3 a b c g) shapeCasts_S128x512_S1x128x512 x
        = stack3 a b c ((Rect.unit (s := S3x128x512) off S1x128x512.size inb).emb x) := fun g off inb h0 hs x =>
    stack_piece_emb (G := 3) (r := 2) (d := ![128, 512]) (pick3 a b c) g _ off inb h0 hs x
  have cover : ∀ (g : Fin 3) (y : S3x128x512.Idx) (off : Fin 3 → ℕ) (inb : ∀ k, off k + S1x128x512.size k ≤ S3x128x512.size k) (_ : off 0 = g.val) (_ : ∀ k : Fin 2, off k.succ = 0)
      (_ : y 0 = g), ∃ x : S1x128x512.Idx, (Rect.unit (s := S3x128x512) off S1x128x512.size inb).emb x = y := by
    intro g y off inb h0 hs hy
    let x : S1x128x512.Idx := fun k => match k with | 0 => ⟨0, by decide⟩ | 1 => y 1 | 2 => y 2
    refine ⟨x, ?_⟩
    funext k
    refine Fin.ext ?_
    match k with
    | 0 => exact (ValueKit.rect_emb_unit_val (s := S3x128x512) off S1x128x512.size inb x 0).trans ((congrArg (· + 0) h0).trans (congrArg Fin.val hy).symm)
    | 1 => exact (ValueKit.rect_emb_unit_val (s := S3x128x512) off S1x128x512.size inb x 1).trans ((congrArg (· + (y 1).val) (hs 0)).trans (Nat.zero_add _))
    | 2 => exact (ValueKit.rect_emb_unit_val (s := S3x128x512) off S1x128x512.size inb x 2).trans ((congrArg (· + (y 2).val) (hs 1)).trans (Nat.zero_add _))
  funext y
  have hy : y 0 = (0 : Fin 3) ∨ y 0 = (1 : Fin 3) ∨ y 0 = (2 : Fin 3) := by
    have h : ∀ n : Fin 3, n = 0 ∨ n = 1 ∨ n = 2 := by decide
    exact h (y 0)
  have go : ∀ L : List (View.Piece (Elt F) S3x128x512 .f32), (∀ p ∈ L, ∀ x, p.2 x = stack3 a b c (p.1.emb x)) → (∃ p ∈ L, ∃ x, p.1.emb x = y) →
      v.read (Elt F) (v.writes (Elt F) f L) y = stack3 a b c y := by
    intro L
    induction L with
    | nil => rintro _ ⟨p, hp, _⟩; simp at hp
    | cons p L ih =>
      intro hL hy
      by_cases hm : ∃ x, p.1.emb x = y
      · obtain ⟨x, rfl⟩ := hm
        exact (View.read_writes_cons_emb v f p.1 p.2 L x).trans (hL p (by simp) x)
      · refine (read_cons_of_not_mem v f p L y (fun h => hm ?_)).trans (ih (fun q hq => hL q (by simp [hq])) ?_)
        · obtain ⟨x, hx⟩ := p.1.exists_idx_of_mem h; exact ⟨x, hx⟩
        · obtain ⟨q, hq, hqy⟩ := hy
          rcases List.mem_cons.mp hq with rfl | hq'
          · exact absurd hqy hm
          · exact ⟨q, hq', hqy⟩
  refine go _ ?_ ?_
  · intro p hp
    simp only [List.mem_cons, List.mem_nil_iff, _root_.or_false] at hp
    rcases hp with rfl | rfl | rfl
    · exact piece 2 ![2, 0, 0] inb_S3x128x512_S1x128x512_2_0_0 rfl (by decide)
    · exact piece 1 ![1, 0, 0] inb_S3x128x512_S1x128x512_1_0_0 rfl (by decide)
    · exact piece 0 ![0, 0, 0] inb_S3x128x512_S1x128x512_0_0_0 rfl (by decide)
  · rcases hy with h | h | h
    · exact ⟨_, (.tail _ (.tail _ (.head _))), cover 0 y ![0, 0, 0] inb_S3x128x512_S1x128x512_0_0_0 rfl (by decide) h⟩
    · exact ⟨_, (.tail _ (.head _)), cover 1 y ![1, 0, 0] inb_S3x128x512_S1x128x512_1_0_0 rfl (by decide) h⟩
    · exact ⟨_, (.head _), cover 2 y ![2, 0, 0] inb_S3x128x512_S1x128x512_2_0_0 rfl (by decide) h⟩

/-! ## The point's conditions -/

theorem cond1_eq (i : grid1.Coords) : (Scalar.cmpi .ne (Scalar.extui (Scalar.cmpi .eq (BitVec.ofNat 32 (i 0).val) 0#32) : BitVec 32) 0#32 = 1#1) = ((i 0).val = 0) := by
  have h : ∀ n : Fin 53, (Scalar.cmpi .ne (Scalar.extui (Scalar.cmpi .eq (BitVec.ofNat 32 n.val) 0#32) : BitVec 32) 0#32 = 1#1) = (n.val = 0) := by
    intro n; refine propext ?_; revert n; decide
  exact h (i 0)
theorem cond2_eq (i : grid1.Coords) : (Scalar.cmpi .ne (Scalar.extui (Scalar.cmpi .slt (BitVec.ofNat 32 (i 0).val) 50#32) : BitVec 32) 0#32 = 1#1) = ((i 0).val < 50) := by
  have h : ∀ n : Fin 53, (Scalar.cmpi .ne (Scalar.extui (Scalar.cmpi .slt (BitVec.ofNat 32 n.val) 50#32) : BitVec 32) 0#32 = 1#1) = (n.val < 50) := by
    intro n; refine propext ?_; revert n; decide
  exact h (i 0)
theorem cond3_eq (i : grid1.Coords) : (Scalar.cmpi .ne (Scalar.extui (Scalar.andi (Scalar.cmpi .sge (BitVec.ofNat 32 (i 0).val) 1#32) (Scalar.cmpi .sle (BitVec.ofNat 32 (i 0).val) 50#32)) : BitVec 32) 0#32 = 1#1) = ((1 ≤ (i 0).val ∧ (i 0).val ≤ 50)) := by
  have h : ∀ n : Fin 53, (Scalar.cmpi .ne (Scalar.extui (Scalar.andi (Scalar.cmpi .sge (BitVec.ofNat 32 n.val) 1#32) (Scalar.cmpi .sle (BitVec.ofNat 32 n.val) 50#32)) : BitVec 32) 0#32 = 1#1) = ((1 ≤ n.val ∧ n.val ≤ 50)) := by
    intro n; refine propext ?_; revert n; decide
  exact h (i 0)
theorem cond4_eq (i : grid1.Coords) : (Scalar.cmpi .ne (Scalar.extui (Scalar.andi (Scalar.cmpi .sge (BitVec.ofNat 32 (i 0).val) 2#32) (Scalar.cmpi .sle (BitVec.ofNat 32 (i 0).val) 51#32)) : BitVec 32) 0#32 = 1#1) = ((2 ≤ (i 0).val ∧ (i 0).val ≤ 51)) := by
  have h : ∀ n : Fin 53, (Scalar.cmpi .ne (Scalar.extui (Scalar.andi (Scalar.cmpi .sge (BitVec.ofNat 32 n.val) 2#32) (Scalar.cmpi .sle (BitVec.ofNat 32 n.val) 51#32)) : BitVec 32) 0#32 = 1#1) = ((2 ≤ n.val ∧ n.val ≤ 51)) := by
    intro n; refine propext ?_; revert n; decide
  exact h (i 0)
theorem cond5_eq (i : grid1.Coords) : (k1_cond5 i = 1#1) = ((i 0).val = 52) := by
  have h : ∀ n : Fin 53, (Scalar.cmpi .ne (Scalar.extui (Scalar.cmpi .eq (BitVec.ofNat 32 n.val) 52#32) : BitVec 32) 0#32 = 1#1) = (n.val = 52) := by
    intro n; refine propext ?_; revert n; decide
  exact h (i 0)

end Cert.Proof.Whole

end
-- ==== Proof.Body.lean ====
/-
  One grid point of the TensorCore kernel, as a function of what its buffers hold when the point starts.
-/
module

public import proofs.«01_k».proof.Proof.Point

@[expose] public section

noncomputable section

namespace Cert.Proof.Whole

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Whole

variable {κ : Kind} {sp : Space} {e : EltTy}

/-- A load of a whole matrix reads it; -/
theorem rd2 {m n : ℕ} (v : View sig κ sp ⟨2, ![m, n]⟩ e) (f : v.ty.Contents (Elt F)) (inb) :
    v.readAt (Elt F) (Rect.unit (s := ⟨2, ![m, n]⟩) ![0, 0] ![m, n] inb).toLoadRect f = v.read (Elt F) f := View.readAt_full v f inb
/-- of a whole block of matrices, likewise. -/
theorem rd3 {k m n : ℕ} (v : View sig κ sp ⟨3, ![k, m, n]⟩ e) (f : v.ty.Contents (Elt F)) (inb) :
    v.readAt (Elt F) (Rect.unit (s := ⟨3, ![k, m, n]⟩) ![0, 0, 0] ![k, m, n] inb).toLoadRect f = v.read (Elt F) f := View.readAt_full v f inb
/-- A whole matrix stored is the matrix read back; -/
theorem wr2 {m n : ℕ} (v : View sig κ sp ⟨2, ![m, n]⟩ e) (f : v.ty.Contents (Elt F)) (inb) (p : (⟨2, ![m, n]⟩ : Shape).Idx → Elt F e) (L) :
    v.read (Elt F) (v.writes (Elt F) f (⟨Rect.unit (s := ⟨2, ![m, n]⟩) ![0, 0] ![m, n] inb, p⟩ :: L)) = p := View.read_writes_full v f inb p L
/-- a whole block, likewise. -/
theorem wr3 {k m n : ℕ} (v : View sig κ sp ⟨3, ![k, m, n]⟩ e) (f : v.ty.Contents (Elt F)) (inb) (p : (⟨3, ![k, m, n]⟩ : Shape).Idx → Elt F e) (L) :
    v.read (Elt F) (v.writes (Elt F) f (⟨Rect.unit (s := ⟨3, ![k, m, n]⟩) ![0, 0, 0] ![k, m, n] inb, p⟩ :: L)) = p := View.read_writes_full v f inb p L

end Whole

set_option maxHeartbeats 4000000 in
/-- From the windows' blocks and the scratch buffers at any states, the point leaves the blocks it reads as they were, the
    projection in the result's block, the states one step on, and at the last point the states it found in the last two
    results' blocks. -/
theorem body_run (d : Dev nD) (i : grid1.Coords) (M1 : Memref sig .tc .vmem S1x128x256 .bf16) (h1 : M1.IsWhole) (M2 : Memref sig .tc .vmem S256x2048 .bf16) (h2 : M2.IsWhole) (M3 : Memref sig .tc .vmem S512x2048 .bf16) (h3 : M3.IsWhole) (M4 : Memref sig .tc .vmem S1x2048 .f32) (h4 : M4.IsWhole) (M5 : Memref sig .tc .vmem S512x2048 .bf16) (h5 : M5.IsWhole) (M6 : Memref sig .tc .vmem S512x2048 .bf16) (h6 : M6.IsWhole) (M7 : Memref sig .tc .vmem S1x2048 .f32) (h7 : M7.IsWhole) (M8 : Memref sig .tc .vmem S512x2048 .bf16) (h8 : M8.IsWhole) (M9 : Memref sig .tc .vmem S512x2048 .bf16) (h9 : M9.IsWhole) (M10 : Memref sig .tc .vmem S1x2048 .f32) (h10 : M10.IsWhole) (M11 : Memref sig .tc .vmem S512x1000 .bf16) (h11 : M11.IsWhole) (M12 : Memref sig .tc .vmem S1x1000 .f32) (h12 : M12.IsWhole) (M13 : Memref sig .tc .vmem S1x128x1000 .f32) (h13 : M13.IsWhole) (M14 : Memref sig .tc .vmem S3x128x512 .f32) (h14 : M14.IsWhole) (M15 : Memref sig .tc .vmem S3x128x512 .f32) (h15 : M15.IsWhole) (M16 : Memref sig .tc .vmem S128x512 .bf16) (h16 : M16.IsWhole) (M17 : Memref sig .tc .vmem S128x512 .f32) (h17 : M17.IsWhole) (M18 : Memref sig .tc .vmem S128x512 .bf16) (h18 : M18.IsWhole) (M19 : Memref sig .tc .vmem S128x512 .f32) (h19 : M19.IsWhole) (M20 : Memref sig .tc .vmem S128x512 .bf16) (h20 : M20.IsWhole) (M21 : Memref sig .tc .vmem S128x512 .f32) (h21 : M21.IsWhole) (A : Wts F) (x : Vec F S1x128x256 .bf16) (S : WSt F)
    (Y13 : Vec F S1x128x1000 .f32) (Y14 Y15 : Vec F S3x128x512 .f32) (Q : PUnit → sProp (MM F)) :
    iprop(owns (d : Thread nD τ) M1 fullShare (x) ∗ owns (d : Thread nD τ) M2 fullShare (A.wi0) ∗ owns (d : Thread nD τ) M3 fullShare (A.wh0) ∗ owns (d : Thread nD τ) M4 fullShare (A.b0) ∗ owns (d : Thread nD τ) M5 fullShare (A.wi1) ∗ owns (d : Thread nD τ) M6 fullShare (A.wh1) ∗ owns (d : Thread nD τ) M7 fullShare (A.b1) ∗ owns (d : Thread nD τ) M8 fullShare (A.wi2) ∗ owns (d : Thread nD τ) M9 fullShare (A.wh2) ∗ owns (d : Thread nD τ) M10 fullShare (A.b2) ∗ owns (d : Thread nD τ) M11 fullShare (A.wl) ∗ owns (d : Thread nD τ) M12 fullShare (A.bl) ∗ owns (d : Thread nD τ) M13 fullShare (Y13) ∗ owns (d : Thread nD τ) M14 fullShare (Y14) ∗ owns (d : Thread nD τ) M15 fullShare (Y15) ∗ owns (d : Thread nD τ) M16 fullShare S.h0 ∗ owns (d : Thread nD τ) M17 fullShare S.c0 ∗ owns (d : Thread nD τ) M18 fullShare S.h1 ∗ owns (d : Thread nD τ) M19 fullShare S.c1 ∗ owns (d : Thread nD τ) M20 fullShare S.h2 ∗ owns (d : Thread nD τ) M21 fullShare S.c2
        ∗ (iprop(owns (d : Thread nD τ) M1 fullShare (x) ∗ owns (d : Thread nD τ) M2 fullShare (A.wi0) ∗ owns (d : Thread nD τ) M3 fullShare (A.wh0) ∗ owns (d : Thread nD τ) M4 fullShare (A.b0) ∗ owns (d : Thread nD τ) M5 fullShare (A.wi1) ∗ owns (d : Thread nD τ) M6 fullShare (A.wh1) ∗ owns (d : Thread nD τ) M7 fullShare (A.b1) ∗ owns (d : Thread nD τ) M8 fullShare (A.wi2) ∗ owns (d : Thread nD τ) M9 fullShare (A.wh2) ∗ owns (d : Thread nD τ) M10 fullShare (A.b2) ∗ owns (d : Thread nD τ) M11 fullShare (A.wl) ∗ owns (d : Thread nD τ) M12 fullShare (A.bl) ∗ owns (d : Thread nD τ) M13 fullShare (projW A (i 0).val S) ∗ owns (d : Thread nD τ) M14 fullShare (if (i 0).val = 52 then hnW (i 0).val S else Y14) ∗ owns (d : Thread nD τ) M15 fullShare (if (i 0).val = 52 then cnW (i 0).val S else Y15) ∗ owns (d : Thread nD τ) M16 fullShare (stepW A (i 0).val x S).h0 ∗ owns (d : Thread nD τ) M17 fullShare (stepW A (i 0).val x S).c0 ∗ owns (d : Thread nD τ) M18 fullShare (stepW A (i 0).val x S).h1 ∗ owns (d : Thread nD τ) M19 fullShare (stepW A (i 0).val x S).c1 ∗ owns (d : Thread nD τ) M20 fullShare (stepW A (i 0).val x S).h2 ∗ owns (d : Thread nD τ) M21 fullShare (stepW A (i 0).val x S).c2) -∗ Q ⟨⟩))
      ⊢ wp frame (wpE (defs₀ (F := F)) 𝒱₀ (d : Thread nD τ) none) Set.univ (cc1__fused_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  simp only [cc1__fused_body_eq_skeleton]; unfold cc1__fused_body_skel
  simp only [k1_part1_eq_skeleton, k1_part2_eq_skeleton]; unfold k1_part1_skel k1_part2_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  sl_exec
  sl_step
  iapply Hk
  isplitl [H1]
  · iexists _; isplitr; swap; · iexact H1
    ipureintro
    exact e1
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    sl_unfold_words
    dsimp only [projW, entry]
    simp only [rd2, rd3, wr2, wr3, e1, e2, e3, e4, e5, e6, e7, e8, e9, e10, e11, e12, e16, e17, e18, e19, e20, e21, cond1_eq]
    by_cases p1 : (i 0).val = 0 <;> simp only [rd2, rd3, wr2, wr3, e1, e2, e3, e4, e5, e6, e7, e8, e9, e10, e11, e12, e16, e17, e18, e19, e20, e21, p1, dif_pos, dif_neg, not_false_eq_true, if_pos, if_neg, reduceDIte, reduceIte]
  isplitl [H14]
  · iexists _; isplitr; swap; · iexact H14
    ipureintro
    by_cases p5 : (i 0).val = 52
    · have p1 : ¬ (i 0).val = 0 := by omega
      have q5 : k1_cond5 i = 1#1 := (cond5_eq i).mpr p5
      rw [dif_pos q5, if_pos p5]
      sl_unfold_words
      simp only [rd2, rd3, wr2, wr3, e1, e2, e3, e4, e5, e6, e7, e8, e9, e10, e11, e12, e16, e17, e18, e19, e20, e21, cond1_eq, p1, dif_neg, not_false_eq_true, reduceDIte]
      dsimp only [hnW, entry]
      rw [if_neg p1]
      exact read_stack3 _ _ _ _ _
    · rw [dif_neg (fun q => p5 ((cond5_eq i).mp q)), if_neg p5]; exact e14
  isplitl [H15]
  · iexists _; isplitr; swap; · iexact H15
    ipureintro
    by_cases p5 : (i 0).val = 52
    · have p1 : ¬ (i 0).val = 0 := by omega
      have q5 : k1_cond5 i = 1#1 := (cond5_eq i).mpr p5
      rw [dif_pos q5, if_pos p5]
      sl_unfold_words
      simp only [rd2, rd3, wr2, wr3, e1, e2, e3, e4, e5, e6, e7, e8, e9, e10, e11, e12, e16, e17, e18, e19, e20, e21, cond1_eq, p1, dif_neg, not_false_eq_true, reduceDIte]
      dsimp only [cnW, entry]
      rw [if_neg p1]
      exact read_stack3 _ _ _ _ _
    · rw [dif_neg (fun q => p5 ((cond5_eq i).mp q)), if_neg p5]; exact e15
  isplitl [H16]
  · iexists _; isplitr; swap; · iexact H16
    ipureintro
    sl_unfold_words
    dsimp only [stepW, entry, newH0, newC0, newH1, newC1, newH2, newC2, gates1, gates2]
    simp only [rd2, rd3, wr2, wr3, e1, e2, e3, e4, e5, e6, e7, e8, e9, e10, e11, e12, e16, e17, e18, e19, e20, e21, cond1_eq, cond2_eq]
    by_cases p1 : (i 0).val = 0 <;> by_cases p2 : (i 0).val < 50 <;> simp only [rd2, rd3, wr2, wr3, e1, e2, e3, e4, e5, e6, e7, e8, e9, e10, e11, e12, e16, e17, e18, e19, e20, e21, p1, p2, _root_.and_self, (by decide : 0 < 50), (by decide : ¬ (1 ≤ 0 ∧ 0 ≤ 50)), (by decide : ¬ (2 ≤ 0 ∧ 0 ≤ 51)), dif_pos, dif_neg, not_false_eq_true, if_pos, reduceDIte, reduceIte]
  isplitl [H17]
  · iexists _; isplitr; swap; · iexact H17
    ipureintro
    sl_unfold_words
    dsimp only [stepW, entry, newH0, newC0, newH1, newC1, newH2, newC2, gates1, gates2]
    simp only [rd2, rd3, wr2, wr3, e1, e2, e3, e4, e5, e6, e7, e8, e9, e10, e11, e12, e16, e17, e18, e19, e20, e21, cond1_eq, cond2_eq]
    by_cases p1 : (i 0).val = 0 <;> by_cases p2 : (i 0).val < 50 <;> simp only [rd2, rd3, wr2, wr3, e1, e2, e3, e4, e5, e6, e7, e8, e9, e10, e11, e12, e16, e17, e18, e19, e20, e21, p1, p2, _root_.and_self, (by decide : 0 < 50), (by decide : ¬ (1 ≤ 0 ∧ 0 ≤ 50)), (by decide : ¬ (2 ≤ 0 ∧ 0 ≤ 51)), dif_pos, dif_neg, not_false_eq_true, if_pos, reduceDIte, reduceIte]
  isplitl [H18]
  · iexists _; isplitr; swap; · iexact H18
    ipureintro
    sl_unfold_words
    dsimp only [stepW, entry, newH0, newC0, newH1, newC1, newH2, newC2, gates1, gates2]
    simp only [rd2, rd3, wr2, wr3, e1, e2, e3, e4, e5, e6, e7, e8, e9, e10, e11, e12, e16, e17, e18, e19, e20, e21, cond1_eq, cond3_eq]
    by_cases p1 : (i 0).val = 0 <;> by_cases p2 : 1 ≤ (i 0).val ∧ (i 0).val ≤ 50 <;> simp only [rd2, rd3, wr2, wr3, e1, e2, e3, e4, e5, e6, e7, e8, e9, e10, e11, e12, e16, e17, e18, e19, e20, e21, p1, p2, _root_.and_self, (by decide : 0 < 50), (by decide : ¬ (1 ≤ 0 ∧ 0 ≤ 50)), (by decide : ¬ (2 ≤ 0 ∧ 0 ≤ 51)), dif_pos, dif_neg, not_false_eq_true, if_pos, reduceDIte, reduceIte]
  isplitl [H19]
  · iexists _; isplitr; swap; · iexact H19
    ipureintro
    sl_unfold_words
    dsimp only [stepW, entry, newH0, newC0, newH1, newC1, newH2, newC2, gates1, gates2]
    simp only [rd2, rd3, wr2, wr3, e1, e2, e3, e4, e5, e6, e7, e8, e9, e10, e11, e12, e16, e17, e18, e19, e20, e21, cond1_eq, cond3_eq]
    by_cases p1 : (i 0).val = 0 <;> by_cases p2 : 1 ≤ (i 0).val ∧ (i 0).val ≤ 50 <;> simp only [rd2, rd3, wr2, wr3, e1, e2, e3, e4, e5, e6, e7, e8, e9, e10, e11, e12, e16, e17, e18, e19, e20, e21, p1, p2, _root_.and_self, (by decide : 0 < 50), (by decide : ¬ (1 ≤ 0 ∧ 0 ≤ 50)), (by decide : ¬ (2 ≤ 0 ∧ 0 ≤ 51)), dif_pos, dif_neg, not_false_eq_true, if_pos, reduceDIte, reduceIte]
  isplitl [H20]
  · iexists _; isplitr; swap; · iexact H20
    ipureintro
    sl_unfold_words
    dsimp only [stepW, entry, newH0, newC0, newH1, newC1, newH2, newC2, gates1, gates2]
    simp only [rd2, rd3, wr2, wr3, e1, e2, e3, e4, e5, e6, e7, e8, e9, e10, e11, e12, e16, e17, e18, e19, e20, e21, cond1_eq, cond4_eq]
    by_cases p1 : (i 0).val = 0 <;> by_cases p2 : 2 ≤ (i 0).val ∧ (i 0).val ≤ 51 <;> simp only [rd2, rd3, wr2, wr3, e1, e2, e3, e4, e5, e6, e7, e8, e9, e10, e11, e12, e16, e17, e18, e19, e20, e21, p1, p2, _root_.and_self, (by decide : 0 < 50), (by decide : ¬ (1 ≤ 0 ∧ 0 ≤ 50)), (by decide : ¬ (2 ≤ 0 ∧ 0 ≤ 51)), dif_pos, dif_neg, not_false_eq_true, if_pos, reduceDIte, reduceIte]
  iexists _; isplitr; swap; · iexact H21
  ipureintro
  sl_unfold_words
  dsimp only [stepW, entry, newH0, newC0, newH1, newC1, newH2, newC2, gates1, gates2]
  simp only [rd2, rd3, wr2, wr3, e1, e2, e3, e4, e5, e6, e7, e8, e9, e10, e11, e12, e16, e17, e18, e19, e20, e21, cond1_eq, cond4_eq]
  by_cases p1 : (i 0).val = 0 <;> by_cases p2 : 2 ≤ (i 0).val ∧ (i 0).val ≤ 51 <;> simp only [rd2, rd3, wr2, wr3, e1, e2, e3, e4, e5, e6, e7, e8, e9, e10, e11, e12, e16, e17, e18, e19, e20, e21, p1, p2, _root_.and_self, (by decide : 0 < 50), (by decide : ¬ (1 ≤ 0 ∧ 0 ≤ 50)), (by decide : ¬ (2 ≤ 0 ∧ 0 ≤ 51)), dif_pos, dif_neg, not_false_eq_true, if_pos, reduceDIte, reduceIte]

end Cert.Proof.Whole

end
-- ==== Proof.Wave.lean ====
/-
  The TensorCore kernel's pipeline: what the scratch buffers hold after each grid point, what each window's block holds,
  and the body's obligation at every point.
-/
module

public import proofs.«01_k».proof.Proof.Body

@[expose] public section

noncomputable section

namespace Cert.Proof.Whole

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A TensorCore's buffers at the pipeline's entry. -/
abbrev Bufs (F : FTy → Type) : Type := (c : Dev nD) → (b : Ref sig .tc) → Buf (Elt F) ((c : Thread nD τ).loc b)

/-! ## The values at the points -/

/-- The weights and biases: whole arrays. -/
def wts (V : Bufs F) (c : Dev nD) : Wts F where
  wi0 := V c main_v9
  wh0 := V c main_v11
  b0 := V c main_v21
  wi1 := V c main_v13
  wh1 := V c main_v15
  b1 := V c main_v23
  wi2 := V c main_v17
  wh2 := V c main_v19
  b2 := V c main_v25
  wl := V c main_v27
  bl := V c main_v28

/-- The input block of point `n`: the embedded words of time `min n 49`. -/
def xAt (V : Bufs F) (c : Dev nD) (n : ℕ) : Vec F S1x128x256 .bf16 := fun y =>
  let x : Vec F S50x128x256 .bf16 := V c main_v7
  x (fun k => match k with | 0 => ⟨min n 49, by show min n 49 < 50; omega⟩ | 1 => y 1 | 2 => y 2)

/-- The states after `n` points (before the first, anything: the first point clears them). -/
def st (V : Bufs F) (c : Dev nD) : ℕ → WSt F
  | 0 => ⟨k1_pay17, k1_pay18, k1_pay19, k1_pay20, k1_pay21, k1_pay22⟩
  | n + 1 => stepW (wts V c) n (xAt V c n) (st V c n)

/-- States that agree wherever a point reads them start it alike. -/
theorem entry_of {n : ℕ} {S S' : WSt F} (h : n ≠ 0 → S = S') : entry n S = entry n S' := by
  unfold entry
  by_cases h0 : n = 0
  · rw [if_pos h0, if_pos h0]
  · rw [if_neg h0, if_neg h0, h h0]

theorem stepW_of {A : Wts F} {n : ℕ} {x : Vec F S1x128x256 .bf16} {S S' : WSt F} (h : n ≠ 0 → S = S') : stepW A n x S = stepW A n x S' := by
  unfold stepW; rw [entry_of h]
theorem projW_of {A : Wts F} {n : ℕ} {S S' : WSt F} (h : n ≠ 0 → S = S') : projW A n S = projW A n S' := by
  unfold projW; rw [entry_of h]
theorem hnW_of {n : ℕ} {S S' : WSt F} (h : n ≠ 0 → S = S') : hnW n S = hnW n S' := by
  unfold hnW; rw [entry_of h]
theorem cnW_of {n : ℕ} {S S' : WSt F} (h : n ≠ 0 → S = S') : cnW n S = cnW n S' := by
  unfold cnW; rw [entry_of h]

/-! ## The pipeline's proof data -/

/-- The scratch buffers between points: the states after the points so far. -/
def Φc (V : Bufs F) (c : Dev nD) (n : ℕ) : sProp (MM F) :=
  iprop(∃ S : WSt F, ⌜n ≠ 0 → S = st V c n⌝
    ∗ owns (c : Thread nD τ) (Memref.whole cc1_scratch0) fullShare S.h0 ∗ owns (c : Thread nD τ) (Memref.whole cc1_scratch1) fullShare S.c0
    ∗ owns (c : Thread nD τ) (Memref.whole cc1_scratch2) fullShare S.h1 ∗ owns (c : Thread nD τ) (Memref.whole cc1_scratch3) fullShare S.c1
    ∗ owns (c : Thread nD τ) (Memref.whole cc1_scratch4) fullShare S.h2 ∗ owns (c : Thread nD τ) (Memref.whole cc1_scratch5) fullShare S.c2)

/-- The pipeline's data: the arrays as found, each input's block unchanged, the projection, and the states at the last
    point; no credit is owed, and no wait is recorded above the one call's levels. -/
def dats (V : Bufs F) (_ : Fin 1) (c : Dev nD) : Pipeline.Dat τ (Elt F) (HIx 1) ℕ UU ℕ cfg1 c where
  A w := V c (Pipeline.arrRef spec1 w)
  after w t := match w with
    | ⟨0, _⟩ => xAt V c t.val
    | ⟨1, _⟩ => (wts V c).wi0
    | ⟨2, _⟩ => (wts V c).wh0
    | ⟨3, _⟩ => (wts V c).b0
    | ⟨4, _⟩ => (wts V c).wi1
    | ⟨5, _⟩ => (wts V c).wh1
    | ⟨6, _⟩ => (wts V c).b1
    | ⟨7, _⟩ => (wts V c).wi2
    | ⟨8, _⟩ => (wts V c).wh2
    | ⟨9, _⟩ => (wts V c).b2
    | ⟨10, _⟩ => (wts V c).wl
    | ⟨11, _⟩ => (wts V c).bl
    | ⟨12, _⟩ => projW (wts V c) t.val (st V c t.val)
    | ⟨13, _⟩ => hnW t.val (st V c t.val)
    | ⟨14, _⟩ => cnW t.val (st V c t.val)
    | ⟨_ + 15, h⟩ => absurd h (Nat.not_lt.2 (Nat.le_add_left _ _))
  Φ t := Φc V c t.val
  q _ := fullShare
  owed _ := 0
  recorded _ := {p | (K (F := F)).lev (T (τ := τ) c, p.1) p.2 ≤ 8}

theorem A_eq (V : Bufs F) (c : Dev nD) (w : Fin cfg1.W) : (dats V 0 c).A w = V c (Pipeline.arrRef spec1 w) := by
  dsimp only [dats]

theorem coords0 (t : Fin cfg1.N) : (grid1.coords t 0).val = t.val := by
  have h := Pipeline.Grid.coords_val (G := grid1) t 0 (S := 1) (B := 53) (by decide) rfl
  have : t.val < 53 := t.isLt
  omega

variable (V : Bufs F) (c : Dev nD)

theorem index0 : ∀ t : Fin grid1.N, win1_0.index t = ![min t.val 49, 0, 0] := by decide +kernel
theorem index1 : ∀ t : Fin grid1.N, win1_1.index t = ![0, 0] := fun _ => rfl
theorem index2 : ∀ t : Fin grid1.N, win1_2.index t = ![0, 0] := fun _ => rfl
theorem index3 : ∀ t : Fin grid1.N, win1_3.index t = ![0, 0] := fun _ => rfl
theorem index4 : ∀ t : Fin grid1.N, win1_4.index t = ![0, 0] := fun _ => rfl
theorem index5 : ∀ t : Fin grid1.N, win1_5.index t = ![0, 0] := fun _ => rfl
theorem index6 : ∀ t : Fin grid1.N, win1_6.index t = ![0, 0] := fun _ => rfl
theorem index7 : ∀ t : Fin grid1.N, win1_7.index t = ![0, 0] := fun _ => rfl
theorem index8 : ∀ t : Fin grid1.N, win1_8.index t = ![0, 0] := fun _ => rfl
theorem index9 : ∀ t : Fin grid1.N, win1_9.index t = ![0, 0] := fun _ => rfl
theorem index10 : ∀ t : Fin grid1.N, win1_10.index t = ![0, 0] := fun _ => rfl
theorem index11 : ∀ t : Fin grid1.N, win1_11.index t = ![0, 0] := fun _ => rfl

theorem block0 (t : Fin cfg1.N) : (dats V 0 c).blockOf 0 t = xAt V c t.val := by
  funext y
  unfold xAt
  blk_ext [dats, index0 t]
theorem block1 (t : Fin cfg1.N) : (dats V 0 c).blockOf 1 t = (wts V c).wi0 := by
  funext y
  unfold wts
  blk_ext [dats, index1 t]
theorem block2 (t : Fin cfg1.N) : (dats V 0 c).blockOf 2 t = (wts V c).wh0 := by
  funext y
  unfold wts
  blk_ext [dats, index2 t]
theorem block3 (t : Fin cfg1.N) : (dats V 0 c).blockOf 3 t = (wts V c).b0 := by
  funext y
  unfold wts
  blk_ext [dats, index3 t]
theorem block4 (t : Fin cfg1.N) : (dats V 0 c).blockOf 4 t = (wts V c).wi1 := by
  funext y
  unfold wts
  blk_ext [dats, index4 t]
theorem block5 (t : Fin cfg1.N) : (dats V 0 c).blockOf 5 t = (wts V c).wh1 := by
  funext y
  unfold wts
  blk_ext [dats, index5 t]
theorem block6 (t : Fin cfg1.N) : (dats V 0 c).blockOf 6 t = (wts V c).b1 := by
  funext y
  unfold wts
  blk_ext [dats, index6 t]
theorem block7 (t : Fin cfg1.N) : (dats V 0 c).blockOf 7 t = (wts V c).wi2 := by
  funext y
  unfold wts
  blk_ext [dats, index7 t]
theorem block8 (t : Fin cfg1.N) : (dats V 0 c).blockOf 8 t = (wts V c).wh2 := by
  funext y
  unfold wts
  blk_ext [dats, index8 t]
theorem block9 (t : Fin cfg1.N) : (dats V 0 c).blockOf 9 t = (wts V c).b2 := by
  funext y
  unfold wts
  blk_ext [dats, index9 t]
theorem block10 (t : Fin cfg1.N) : (dats V 0 c).blockOf 10 t = (wts V c).wl := by
  funext y
  unfold wts
  blk_ext [dats, index10 t]
theorem block11 (t : Fin cfg1.N) : (dats V 0 c).blockOf 11 t = (wts V c).bl := by
  funext y
  unfold wts
  blk_ext [dats, index11 t]
theorem before0 (t : Fin cfg1.N) (d) : (dats V 0 c).before 0 t d = xAt V c t.val :=
  ((dats V 0 c).before_in_eq_fetched 0 rfl (fun _ => rfl) (fun _ _ _ => rfl) (fun t => (block0 V c t).symm) t d).trans (block0 V c t)
theorem before1 (t : Fin cfg1.N) (d) : (dats V 0 c).before 1 t d = (wts V c).wi0 :=
  ((dats V 0 c).before_in_eq_fetched 1 rfl (fun _ => rfl) (fun _ _ _ => rfl) (fun t => (block1 V c t).symm) t d).trans (block1 V c t)
theorem before2 (t : Fin cfg1.N) (d) : (dats V 0 c).before 2 t d = (wts V c).wh0 :=
  ((dats V 0 c).before_in_eq_fetched 2 rfl (fun _ => rfl) (fun _ _ _ => rfl) (fun t => (block2 V c t).symm) t d).trans (block2 V c t)
theorem before3 (t : Fin cfg1.N) (d) : (dats V 0 c).before 3 t d = (wts V c).b0 :=
  ((dats V 0 c).before_in_eq_fetched 3 rfl (fun _ => rfl) (fun _ _ _ => rfl) (fun t => (block3 V c t).symm) t d).trans (block3 V c t)
theorem before4 (t : Fin cfg1.N) (d) : (dats V 0 c).before 4 t d = (wts V c).wi1 :=
  ((dats V 0 c).before_in_eq_fetched 4 rfl (fun _ => rfl) (fun _ _ _ => rfl) (fun t => (block4 V c t).symm) t d).trans (block4 V c t)
theorem before5 (t : Fin cfg1.N) (d) : (dats V 0 c).before 5 t d = (wts V c).wh1 :=
  ((dats V 0 c).before_in_eq_fetched 5 rfl (fun _ => rfl) (fun _ _ _ => rfl) (fun t => (block5 V c t).symm) t d).trans (block5 V c t)
theorem before6 (t : Fin cfg1.N) (d) : (dats V 0 c).before 6 t d = (wts V c).b1 :=
  ((dats V 0 c).before_in_eq_fetched 6 rfl (fun _ => rfl) (fun _ _ _ => rfl) (fun t => (block6 V c t).symm) t d).trans (block6 V c t)
theorem before7 (t : Fin cfg1.N) (d) : (dats V 0 c).before 7 t d = (wts V c).wi2 :=
  ((dats V 0 c).before_in_eq_fetched 7 rfl (fun _ => rfl) (fun _ _ _ => rfl) (fun t => (block7 V c t).symm) t d).trans (block7 V c t)
theorem before8 (t : Fin cfg1.N) (d) : (dats V 0 c).before 8 t d = (wts V c).wh2 :=
  ((dats V 0 c).before_in_eq_fetched 8 rfl (fun _ => rfl) (fun _ _ _ => rfl) (fun t => (block8 V c t).symm) t d).trans (block8 V c t)
theorem before9 (t : Fin cfg1.N) (d) : (dats V 0 c).before 9 t d = (wts V c).b2 :=
  ((dats V 0 c).before_in_eq_fetched 9 rfl (fun _ => rfl) (fun _ _ _ => rfl) (fun t => (block9 V c t).symm) t d).trans (block9 V c t)
theorem before10 (t : Fin cfg1.N) (d) : (dats V 0 c).before 10 t d = (wts V c).wl :=
  ((dats V 0 c).before_in_eq_fetched 10 rfl (fun _ => rfl) (fun _ _ _ => rfl) (fun t => (block10 V c t).symm) t d).trans (block10 V c t)
theorem before11 (t : Fin cfg1.N) (d) : (dats V 0 c).before 11 t d = (wts V c).bl :=
  ((dats V 0 c).before_in_eq_fetched 11 rfl (fun _ => rfl) (fun _ _ _ => rfl) (fun t => (block11 V c t).symm) t d).trans (block11 V c t)

/-- At the last point the states' blocks are written. -/
theorem cond5_last (t : Fin cfg1.N) : (k1_cond5 (grid1.coords t) == 1#1) = decide (t.val = 52) := by
  have h := cond5_eq (grid1.coords t)
  rw [coords0] at h
  by_cases ht : t.val = 52
  · rw [decide_eq_true ht, beq_iff_eq, h]; exact ht
  · rw [decide_eq_false ht, beq_eq_false_iff_ne, ne_eq, h]; exact ht

theorem flush13 (t : Fin cfg1.N) (ht : t.val ≠ 52) : (cfg1.win 13).flush t = false := by
  rw [Bool.eq_false_iff, ne_eq, flush1_13]
  have : t.val < 53 := t.isLt
  omega
theorem flush14 (t : Fin cfg1.N) (ht : t.val ≠ 52) : (cfg1.win 14).flush t = false := by
  rw [Bool.eq_false_iff, ne_eq, flush1_14]
  have : t.val < 53 := t.isLt
  omega

set_option maxHeartbeats 4000000 in
/-- The body's obligation at every point: the blocks and the scratch buffers taken apart, the point run, its result put
    back. -/
theorem body_obligation : Pipeline.BodyObligation (dats V 0 c) (defs₀ (F := F)) 𝒱₀ (none : HIx 1) Set.univ := fun t => by
  rw [bigSep_W1, bigSep_W1]
  simp only [before0, before1, before2, before3, before4, before5, before6, before7, before8, before9, before10, before11]
  rw [show (dats V 0 c).Φ t.castSucc = Φc V c t.val from rfl, show (dats V 0 c).Φ t.succ = Φc V c (t.val + 1) from rfl,
    show (dats V 0 c).owesAt (none : HIx 1) t.castSucc = (dats V 0 c).owesAt (none : HIx 1) t.succ from rfl]
  unfold Φc
  iintro ⟨⟨%S, %hS, K0, K1, K2, K3, K4, K5⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14))
    (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _)
    (wts V c) (xAt V c t.val) S ((dats V 0 c).before 12 t d12) ((dats V 0 c).before 13 t d13) ((dats V 0 c).before 14 t d14))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [K0]; · iexact K0
  isplitl [K1]; · iexact K1
  isplitl [K2]; · iexact K2
  isplitl [K3]; · iexact K3
  isplitl [K4]; · iexact K4
  isplitl [K5]; · iexact K5
  iintro ⟨H0, H1, H2, H3, H4, H5, H6, H7, H8, H9, H10, H11, H12, H13, H14, K0, K1, K2, K3, K4, K5⟩
  rw [coords0, projW_of hS, hnW_of hS, cnW_of hS, stepW_of hS]
  isplitl [K0 K1 K2 K3 K4 K5]
  · iexists (st V c (t.val + 1)); isplitr; · ipureintro; exact fun _ => rfl
    isplitl [K0]; · iexact K0
    isplitl [K1]; · iexact K1
    isplitl [K2]; · iexact K2
    isplitl [K3]; · iexact K3
    isplitl [K4]; · iexact K4
    iexact K5
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  by_cases ht : t.val = 52
  · rw [if_pos ht, if_pos ht]
    have hi : (!(k1_cond5 (grid1.coords t) == 1#1)) = false := by rw [cond5_last, decide_eq_true ht]; rfl
    isplitl [H13]
    · rw [show idle1 13 (grid1.coords t) = false from hi]; iexact H13
    · rw [show idle1 14 (grid1.coords t) = false from hi]; iexact H14
  · rw [if_neg ht, if_neg ht]
    have hi : (!(k1_cond5 (grid1.coords t) == 1#1)) = true := by rw [cond5_last, decide_eq_false ht]; rfl
    isplitl [H13]
    · rw [show idle1 13 (grid1.coords t) = true from hi, show (win1 13).flush t = false from flush13 t ht]; iexists d13; iexact H13
    · rw [show idle1 14 (grid1.coords t) = true from hi, show (win1 14).flush t = false from flush14 t ht]; iexists d14; iexact H14

end Cert.Proof.Whole

end
-- ==== Proof.Out.lean ====
/-
  What the pipeline leaves in its three result arrays.
-/
module

public import proofs.«01_k».proof.Proof.Wave

@[expose] public section

noncomputable section

namespace Cert.Proof.Whole

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (V : Bufs F) (c : Dev nD)

/-- The projections, time by time: point `n + 3` writes time `n`'s. -/
def outA : Vec F S50x128x1000 .f32 := fun i =>
  projW (wts V c) ((i 0).val + 3) (st V c ((i 0).val + 3)) (fun k => match k with | 0 => ⟨0, Nat.one_pos⟩ | 1 => i 1 | 2 => i 2)

theorem index12 : ∀ t : Fin grid1.N, win1_12.index t = ![t.val - 3, 0, 0] := by decide +kernel
theorem flush12 : ∀ t : Fin grid1.N, win1_12.flush t = true → 3 ≤ t.val := by decide +kernel

theorem arr12 : (dats V 0 c).arrAt 12 cfg1.N = outA V c := by
  refine (dats V 0 c).arrAt_eq_of_covers 12 _ (by decide +kernel) fun t hf y => ?_
  have h3 : 3 ≤ t.val := flush12 t hf
  have h0 : ((((cfg1.win 12).blk t).view.emb y) 0 : ℕ) + 3 = t.val := by
    blk_simp [index12 t]
    omega
  have hA : (dats V 0 c).after 12 t = projW (wts V c) t.val (st V c t.val) := by dsimp only [dats]
  unfold outA
  rw [hA, h0]
  blk_ext [index12 t]

/-- The last point. -/
abbrev last : Fin cfg1.N := ⟨52, by decide⟩

theorem arr13 : (dats V 0 c).arrAt 13 cfg1.N = hnW 52 (st V c 52) := by
  refine (dats V 0 c).arrAt_eq_of_after_last 13 last (by decide +kernel) _ fun j => ?_
  have hA : (dats V 0 c).after 13 last = hnW 52 (st V c 52) := by dsimp only [dats]
  rw [hA]
  rfl

theorem arr14 : (dats V 0 c).arrAt 14 cfg1.N = cnW 52 (st V c 52) := by
  refine (dats V 0 c).arrAt_eq_of_after_last 14 last (by decide +kernel) _ fun j => ?_
  have hA : (dats V 0 c).after 14 last = cnW 52 (st V c 52) := by dsimp only [dats]
  rw [hA]
  rfl

end Cert.Proof.Whole

end
-- ==== Proof.Region.lean ====
/-
  The TensorCore kernel as a region of the program: entered with its arrays held at any contents, left with the inputs as
  they were and the three results at what the pipeline computes.
-/
module

public import proofs.«01_k».proof.Proof.Out
public import Idealize.ShloMosaic.Lib.Pipeline.RegionArrays

@[expose] public section

noncomputable section

namespace Cert.Proof.Whole

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A device's buffers, read at the TensorCore's references. -/
abbrev bufsOf (W : Dev nD → Valuation τ sig (Elt F)) : Bufs F := fun c b => W c (Proc.devRef .tc b)

/-- The buffers after the region: the three results at what the pipeline leaves. -/
def regionOut (W : Dev nD → Valuation τ sig (Elt F)) (c : Dev nD) : Valuation τ sig (Elt F) :=
  Function.update (Function.update (Function.update (W c) (Proc.devRef .tc main_v29_0) (outA (bufsOf W) c))
    (Proc.devRef .tc main_v29_1) (hnW 52 (st (bufsOf W) c 52))) (Proc.devRef .tc main_v29_2) (cnW 52 (st (bufsOf W) c 52))

theorem regionOut_of_ne (W : Dev nD → Valuation τ sig (Elt F)) (c : Dev nD) (b : DevRef τ sig) (h0 : b ≠ Proc.devRef .tc main_v29_0)
    (h1 : b ≠ Proc.devRef .tc main_v29_1) (h2 : b ≠ Proc.devRef .tc main_v29_2) : regionOut W c b = W c b := by
  unfold regionOut
  rw [Function.update_of_ne h2, Function.update_of_ne h1, Function.update_of_ne h0]

theorem regionOut_0 (W : Dev nD → Valuation τ sig (Elt F)) (c : Dev nD) : regionOut W c (Proc.devRef .tc main_v29_0) = outA (bufsOf W) c := by
  unfold regionOut
  rw [Function.update_of_ne (StableHlo.devRef_ne_of_ne (by decide)), Function.update_of_ne (StableHlo.devRef_ne_of_ne (by decide)), Function.update_self]
theorem regionOut_1 (W : Dev nD → Valuation τ sig (Elt F)) (c : Dev nD) : regionOut W c (Proc.devRef .tc main_v29_1) = hnW 52 (st (bufsOf W) c 52) := by
  unfold regionOut
  rw [Function.update_of_ne (StableHlo.devRef_ne_of_ne (by decide)), Function.update_self]
theorem regionOut_2 (W : Dev nD → Valuation τ sig (Elt F)) (c : Dev nD) : regionOut W c (Proc.devRef .tc main_v29_2) = cnW 52 (st (bufsOf W) c 52) := by
  unfold regionOut
  rw [Function.update_self]

variable (W : Dev nD → Valuation τ sig (Elt F))

/-- An input's array ends as it was, -/
theorem arr_in (c : Dev nD) (w : Fin cfg1.W) (hw : (cfg1.win w).isOut = false) (h0 : Pipeline.arrRef spec1 w ≠ main_v29_0)
    (h1 : Pipeline.arrRef spec1 w ≠ main_v29_1) (h2 : Pipeline.arrRef spec1 w ≠ main_v29_2) :
    (dats (bufsOf W) 0 c).arrAt w cfg1.N = regionOut W c (Proc.devRef .tc (Pipeline.arrRef spec1 w)) :=
  ((dats (bufsOf W) 0 c).arrAt_in w hw _).trans ((A_eq (bufsOf W) c w).trans
    (regionOut_of_ne W c _ (StableHlo.devRef_ne_of_ne h0) (StableHlo.devRef_ne_of_ne h1) (StableHlo.devRef_ne_of_ne h2)).symm)

theorem in_of_lt : ∀ w : Fin 15, w.val < 12 → (win1 w).isOut = false ∧ Pipeline.arrRef spec1 w ≠ main_v29_0 ∧ Pipeline.arrRef spec1 w ≠ main_v29_1
    ∧ Pipeline.arrRef spec1 w ≠ main_v29_2 := by decide

/-- so every array ends as in the buffers after the region. -/
theorem arr_end (c : Dev nD) (w : Fin cfg1.W) : (dats (bufsOf W) 0 c).arrAt w cfg1.N = regionOut W c (Proc.devRef .tc (Pipeline.arrRef spec1 w)) := by
  by_cases h : w.val < 12
  · obtain ⟨hw, h0, h1, h2⟩ := in_of_lt w h
    exact arr_in W c w hw h0 h1 h2
  · have hlt : w.val < 15 := w.isLt
    have h3 : w = 12 ∨ w = 13 ∨ w = 14 := by
      rcases (by omega : w.val = 12 ∨ w.val = 13 ∨ w.val = 14) with e | e | e
      · exact Or.inl (Fin.ext e)
      · exact Or.inr (Or.inl (Fin.ext e))
      · exact Or.inr (Or.inr (Fin.ext e))
    rcases h3 with rfl | rfl | rfl
    · exact (arr12 (bufsOf W) c).trans (regionOut_0 W c).symm
    · exact (arr13 (bufsOf W) c).trans (regionOut_1 W c).symm
    · exact (arr14 (bufsOf W) c).trans (regionOut_2 W c).symm

/-- No table is prefetched. -/
abbrev adm : (p : Fin 1) → (pcfgs (F := F) p).Adm := fun p => (cfgs p).toPCfg_adm

/-- What the TensorCore owes between calls: nothing, its waits recorded below the next call's. -/
abbrev RO (c : Dev nD) : sProp (MM F) := iprop(∃ R, ⌜(K (F := F)).WBelow (T (τ := τ) c) R 8⌝ ∗ owes (T (τ := τ) c) (0 : CellTallies nD τ sig (HIx 1)) R)

set_option backward.isDefEq.respectTransparency.types false in
/-- The region. -/
def reg : Pipeline.RegionSeg (pcfgs (F := F)) adm (dats (bufsOf W)) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (bufsOf W) c).loose
  hwaits := Pipeline.hwaits_of_owed_zero _ _ _ _ _ _ 0 fun _ _ => rfl
  pre c := iprop(StableHlo.held (c : Thread nD τ) (Pipeline.arrRefs spec1) (W c) ∗ RO c)
  post c := iprop(StableHlo.held (c : Thread nD τ) (Pipeline.arrRefs spec1) (regionOut W c) ∗ RO c)
  X _ := iprop(emp)
  Y _ := iprop(emp)
  Z _ := iprop(emp)
  hentry c := by
    have ha := Pipeline.arrays_held (pcfgs (F := F)) adm (dats (bufsOf W)) 0 launch1.toP c ((dats (bufsOf W) 0 c).share_full fun _ => rfl)
      (fun w => (dats (bufsOf W) 0 c).arrAt w 0) (W c) (fun w => A_eq (bufsOf W) c w)
    iintro ⟨⟨Hh, ⟨%R, %hR, HO⟩⟩, -, -⟩
    imodintro
    isplitl [Hh]; · iapply (Entails.of_eq ha.symm); iexact Hh
    isplitr; · unfold Pipeline.prefHeld; rw [show (Finset.univ : Finset (Fin 0)) = ∅ from rfl, BI.bigSep_empty]; iempintro
    isplitl [HO]
    · unfold Pipeline.Dat.owesAt Pipeline.owesWithin
      iexists R; isplitr; · ipureintro; exact fun p hp => Or.inl (hR p hp)
      iexact HO
    isplitr <;> iempintro
  hin c := by
    rw [show (dats (bufsOf W) 0 c).Φ 0 = Φc (bufsOf W) c 0 from rfl]; unfold Φc
    rw [scopedRest1_eq]
    simp only [owns_whole_eq]
    iintro ⟨-, -, ⟨%f0, H0⟩, ⟨%f1, H1⟩, ⟨%f2, H2⟩, ⟨%f3, H3⟩, ⟨%f4, H4⟩, ⟨%f5, H5⟩⟩
    iexists (⟨f0, f1, f2, f3, f4, f5⟩ : WSt F)
    isplitr; · ipureintro; exact fun h => absurd rfl h
    isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  hout c := by
    rw [show (dats (bufsOf W) 0 c).Φ (Fin.last cfg1.N) = Φc (bufsOf W) c 53 from rfl]; unfold Φc
    rw [scopedRest1_eq, Pipeline.ownSems0_none]
    simp only [owns_whole_eq]
    iintro ⟨%S, -, ⟨%f0, -, H0⟩, ⟨%f1, -, H1⟩, ⟨%f2, -, H2⟩, ⟨%f3, -, H3⟩, ⟨%f4, -, H4⟩, ⟨%f5, -, H5⟩⟩
    isplitr; · iempintro
    isplitr; · iempintro
    isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  hexit c := by
    have ha := Pipeline.arrays_held (pcfgs (F := F)) adm (dats (bufsOf W)) 0 launch1.toP c ((dats (bufsOf W) 0 c).share_full fun _ => rfl)
      (fun w => (dats (bufsOf W) 0 c).arrAt w cfg1.N) (regionOut W c) (arr_end W c)
    iintro ⟨Ha, HO, -, -⟩
    imodintro
    isplitl [Ha]; · iapply (Entails.of_eq ha); iexact Ha
    unfold Pipeline.Dat.owesAt Pipeline.owesWithin
    icases HO with ⟨%R, %hR, HO⟩
    iexists R; isplitr
    · ipureintro
      intro p hp
      rcases hR hp with h | ⟨w, s, rfl⟩
      · exact h
      · exact Nat.zero_le _
    iexact HO

end Cert.Proof.Whole

end
-- ==== Proof.Gather.lean ====
/-
  The SparseCore gather, with what it leaves in the result. Tile `(c, s)` fetches its two hundred row numbers, reads
  those rows of the table by one indexed transfer and writes them to its two hundred rows of the result: row `r` of the
  result is the row of the table that word `r` of the row numbers names.
-/
module

public import proofs.«01_k».proof.Proof.Base

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The buffers -/

/-- The row numbers, the table and the result, as the TensorCore names them. -/
abbrev ixLoc (d : Dev nD) : Loc nD τ sig := (SparseCore.T d).loc main_v1
abbrev tbLoc (d : Dev nD) : Loc nD τ sig := (SparseCore.T d).loc main_v4
abbrev ouLoc (d : Dev nD) : Loc nD τ sig := (SparseCore.T d).loc main_v5

/-- The same as a tile names them, and the tile's two scratch buffers. -/
abbrev ixM : Memref sig .scVector .hbm S6400 .i32 := Memref.whole main_v1_scv
abbrev tbM : Memref sig .scVector .hbm S1000x2x128 .f32 := Memref.whole main_v4_scv
abbrev ouM : Memref sig .scVector .hbm S6400x2x128 .f32 := Memref.whole main_v5_scv
abbrev liM : Memref sig .scVector .vmem S200 .i32 := Memref.whole cc0_scratch0
abbrev rwM : Memref sig .scVector .vmem S200x2x128 .f32 := Memref.whole cc0_scratch1

/-! ## The tiles' rows -/

theorem dvdIx : 32 ∣ S6400.size 0 := ⟨200, rfl⟩
theorem dvdOu : 32 ∣ S6400x2x128.size 0 := ⟨200, rfl⟩
/-- The `n`-th of the thirty-two runs of two hundred row numbers; -/
abbrev ixSet (n : Fin 32) : Finset S6400.Idx := (Rect.part (s := S6400) (a₀ := 0) dvdIx n).set
/-- the `n`-th of the thirty-two runs of two hundred rows of the result. -/
abbrev ouSet (n : Fin 32) : Finset S6400x2x128.Idx := (Rect.part (s := S6400x2x128) (a₀ := 0) dvdOu n).set

/-- Tile `s` of SparseCore `c` takes run `2 s + c`. -/
def runOf (x : Fin 2 × Fin 16) : Fin 32 := ⟨2 * x.2.val + x.1.val, by omega⟩

/-- Every run is one tile's. -/
def runEquiv : Fin 2 × Fin 16 ≃ Fin 32 :=
  Equiv.ofBijective runOf ((Fintype.bijective_iff_injective_and_card runOf).mpr ⟨by
    rintro ⟨a, b⟩ ⟨a', b'⟩ h
    have e : 2 * b.val + a.val = 2 * b'.val + a'.val := congrArg Fin.val h
    exact Prod.ext (Fin.ext (by show a.val = a'.val; omega)) (Fin.ext (by show b.val = b'.val; omega)), by simp⟩)

/-- The share of the table that run `n`'s tile reads. -/
abbrev tbShare (n : Fin 32) : PosShare TreeShare := pieceOf fullShare 32 (by decide) n

/-! ## What the gather computes -/

/-- The row of element `j` of the result. -/
def rowOf (j : S6400x2x128.Idx) : S6400.Idx := fun a => match a with | 0 => j 0

/-- The index of the table that element `j` of the result reads, under the row numbers `ix`. -/
def srcIdx (ix : S6400.Idx → BitVec 32) (j : S6400x2x128.Idx) : S1000x2x128.Idx := fun b =>
  match b with
  | 0 => ⟨(ix (rowOf j)).toNat % 1000, Nat.mod_lt _ (by decide)⟩
  | 1 => j 1
  | 2 => j 2

/-- Row `r` of the result is the table's row of number `ix r`. -/
def gathered (ix : S6400.Idx → BitVec 32) (tb : S1000x2x128.Idx → F .f32) : S6400x2x128.Idx → F .f32 := fun j => tb (srcIdx ix j)

variable [FloatOps F]

section Payload

-- the row numbers and the table the call finds, and what it finds in the result
variable (ix : (d : Dev nD) → Buf (Elt F) (ixLoc d)) (tb : (d : Dev nD) → Buf (Elt F) (tbLoc d)) (o₀ : (d : Dev nD) → Buf (Elt F) (ouLoc d))

abbrev gOut (d : Dev nD) : Buf (Elt F) (ouLoc d) := gathered (F := F) (ix d) (tb d)

/-- What a tile is handed: its run of row numbers, a share of the table, its run of the result; -/
abbrev goP (d : Dev nD) (n : Fin 32) : sProp (MM F) :=
  iprop((ixLoc d ↦[ixSet n]{fullShare} ix d) ∗ (tbLoc d ↦{tbShare n} tb d) ∗ ouLoc d ↦[ouSet n]{fullShare} o₀ d)
/-- what it hands back: the same, its run of the result at the gathered rows. -/
abbrev tdP (d : Dev nD) (n : Fin 32) : sProp (MM F) :=
  iprop((ixLoc d ↦[ixSet n]{fullShare} ix d) ∗ (tbLoc d ↦{tbShare n} tb d) ∗ ouLoc d ↦[ouSet n]{fullShare} gOut ix tb d)

/-- A task's run, from the launch's numbering of cores and tasks. -/
abbrev tileRun (c : Fin ((K (F := F)).nCore 0)) (i : Fin ((K (F := F)).nSub 0)) : Fin 32 := runOf (Fin.cast nCore_eq c, Fin.cast nSub_eq i)

/-- What the one call's handshakes carry: a SparseCore takes what its sixteen tiles take and gives back what they give. -/
def P : (K (F := F)).Pay (nD := nD) (Val := Elt F) (Name := ℕ) (U := UU) where
  st := fun q d c => match q with | 0 => bigSep Finset.univ fun i : Fin ((K (F := F)).nSub 0) => goP ix tb o₀ d (tileRun c i)
  dn := fun q d c => match q with | 0 => bigSep Finset.univ fun i : Fin ((K (F := F)).nSub 0) => tdP ix tb d (tileRun c i)
  go := fun q d c i => match q with | 0 => goP ix tb o₀ d (tileRun c i)
  td := fun q d c i => match q with | 0 => tdP ix tb d (tileRun c i)
  x := fun _ _ => iprop(emp)

instance P_storable : (P ix tb o₀).IsStorable where
  st q d c := match q with
    | 0 => (inferInstance : BI.Storable (upEmb : UEmb _ (MM F)) (bigSep Finset.univ fun i : Fin ((K (F := F)).nSub 0) => goP ix tb o₀ d (tileRun c i)))
  dn q d c := match q with
    | 0 => (inferInstance : BI.Storable (upEmb : UEmb _ (MM F)) (bigSep Finset.univ fun i : Fin ((K (F := F)).nSub 0) => tdP ix tb d (tileRun c i)))
  go q d c i := match q with
    | 0 => (inferInstance : BI.Storable (upEmb : UEmb _ (MM F)) (goP ix tb o₀ d (tileRun c i)))
  td q d c i := match q with
    | 0 => (inferInstance : BI.Storable (upEmb : UEmb _ (MM F)) (tdP ix tb d (tileRun c i)))

/-- A SparseCore's part of the call is its tiles' parts. -/
theorem vecSplit : (K (F := F)).VecSplit' (P ix tb o₀) 0 := by
  intro d c
  show (bigSep Finset.univ fun i : Fin ((K (F := F)).nSub 0) => goP ix tb o₀ d (tileRun c i)) ⊢ |={Set.univ}=> iprop(
      (bigSep Finset.univ fun i : Fin ((K (F := F)).nSub 0) => goP ix tb o₀ d (tileRun c i))
      ∗ ((bigSep Finset.univ fun i : Fin ((K (F := F)).nSub 0) => tdP ix tb d (tileRun c i))
          -∗ bigSep Finset.univ fun i : Fin ((K (F := F)).nSub 0) => tdP ix tb d (tileRun c i)))
  iintro H; imodintro
  isplitl [H]; · iexact H
  iintro H; iexact H

/-! ## The call's operands whole, and in thirty-two runs -/

omit [FloatOps F] in
theorem bigSep_runs (Φ : Fin 32 → sProp (MM F)) :
    (bigSep Finset.univ fun c : Fin ((K (F := F)).nCore 0) => bigSep Finset.univ fun i : Fin ((K (F := F)).nSub 0) => Φ (tileRun c i)) = bigSep Finset.univ Φ := by
  rw [BI.bigSep_univ_equiv runEquiv Φ, BI.bigSep_univ_prod]
  rfl

omit [FloatOps F] in
theorem ix_runs (d : Dev nD) (f : Buf (Elt F) (ixLoc d)) :
    (ixLoc d ↦{fullShare} f : sProp (MM F)) = bigSep Finset.univ fun n : Fin 32 => ixLoc d ↦[ixSet n]{fullShare} f := by
  rw [← pointsTo_biUnion Finset.univ (ℓ := ixLoc d) ixSet (fun i _ j _ h => Rect.part_disjoint dvdIx h), Rect.biUnion_part dvdIx]
omit [FloatOps F] in
theorem ou_runs (d : Dev nD) (f : Buf (Elt F) (ouLoc d)) :
    (ouLoc d ↦{fullShare} f : sProp (MM F)) = bigSep Finset.univ fun n : Fin 32 => ouLoc d ↦[ouSet n]{fullShare} f := by
  rw [← pointsTo_biUnion Finset.univ (ℓ := ouLoc d) ouSet (fun i _ j _ h => Rect.part_disjoint dvdOu h), Rect.biUnion_part dvdOu]
omit [FloatOps F] in
theorem tb_shares (d : Dev nD) (f : Buf (Elt F) (tbLoc d)) :
    (tbLoc d ↦{fullShare} f : sProp (MM F)) = bigSep Finset.univ fun n : Fin 32 => tbLoc d ↦{tbShare n} f :=
  pointsTo_piecesOf Finset.univ f (by decide) fullShare

/-- What the call takes: the row numbers, the table and the result whole; -/
theorem st_eq (d : Dev nD) : (bigSep Finset.univ fun c : Fin ((K (F := F)).nCore 0) => (P ix tb o₀).st 0 d c)
    = iprop((ixLoc d ↦{fullShare} ix d) ∗ (tbLoc d ↦{fullShare} tb d) ∗ ouLoc d ↦{fullShare} o₀ d) := by
  show (bigSep Finset.univ fun c : Fin ((K (F := F)).nCore 0) => bigSep Finset.univ fun i : Fin ((K (F := F)).nSub 0) => goP ix tb o₀ d (tileRun c i)) = _
  rw [bigSep_runs (F := F) (fun n => goP ix tb o₀ d n), bigSep_sep', bigSep_sep', ix_runs, tb_shares, ou_runs]
/-- what it gives back: the same, the result at the gathered rows. -/
theorem dn_eq (d : Dev nD) : (bigSep Finset.univ fun c : Fin ((K (F := F)).nCore 0) => (P ix tb o₀).dn 0 d c)
    = iprop((ixLoc d ↦{fullShare} ix d) ∗ (tbLoc d ↦{fullShare} tb d) ∗ ouLoc d ↦{fullShare} gOut ix tb d) := by
  show (bigSep Finset.univ fun c : Fin ((K (F := F)).nCore 0) => bigSep Finset.univ fun i : Fin ((K (F := F)).nSub 0) => tdP ix tb d (tileRun c i)) = _
  rw [bigSep_runs (F := F) (fun n => tdP ix tb d n), bigSep_sep', bigSep_sep', ix_runs, tb_shares, ou_runs]

end Payload

/-! ## One tile -/

section Tile

variable (d : Dev nD) (L : grid0.Coords)

abbrev cV (L : grid0.Coords) : Fin τ.nSC := (L 0).castLE hcore0
abbrev jV (L : grid0.Coords) : Fin τ.nSub := (L 1).castLE hsub0
/-- The thread of the tile at coordinates `L`; -/
abbrev thV (d : Dev nD) (L : grid0.Coords) : Thread nD τ := V d (cV L) (jV L)
/-- its run. -/
abbrev runL (L : grid0.Coords) : Fin 32 := runOf (Fin.cast (show grid0.bound 0 = 2 from rfl) (L 0), Fin.cast (show grid0.bound 1 = 16 from rfl) (L 1))

/-- The tile's row numbers, its rows of the result, and the whole table, as the tile addresses them. -/
abbrev ixK (L : grid0.Coords) : Memref sig .scVector .hbm S200 .i32 := ixM.slice (Rect.unit (s := S6400) (k0_off1 L) S200.size (k0_off1_inb L)) (fun _ => rfl)
abbrev ouK (L : grid0.Coords) : Memref sig .scVector .hbm S200x2x128 .f32 := ouM.slice (Rect.unit (s := S6400x2x128) (k0_off2 L) S200x2x128.size (k0_off2_inb L)) (fun _ => rfl)
abbrev tbK : Memref sig .scVector .hbm S1000x2x128 .f32 := tbM.slice (Rect.unit (s := S1000x2x128) ![0, 0, 0] S1000x2x128.size inb_S1000x2x128_S1000x2x128_0_0_0) (fun _ => rfl)

omit [FloatOps F] in
theorem rect_ix : (Rect.unit (s := S6400) (k0_off1 L) S200.size (k0_off1_inb L)) = Rect.part (s := S6400) (a₀ := 0) dvdIx (runL L) := by
  unfold Rect.part Rect.block
  congr 1 <;> funext a
  · rw [k0_off1_eq]
    match a with
    | 0 =>
      have e : (runL L).val = 2 * (L 1).val + (L 0).val := rfl
      simp [Shape.partIx, Shape.partSize, -Fin.val_cast, e]; omega
  · match a with
    | 0 => simp [Shape.partSize]
omit [FloatOps F] in
theorem rect_ou : (Rect.unit (s := S6400x2x128) (k0_off2 L) S200x2x128.size (k0_off2_inb L)) = Rect.part (s := S6400x2x128) (a₀ := 0) dvdOu (runL L) := by
  unfold Rect.part Rect.block
  congr 1 <;> funext a
  · rw [k0_off2_eq]
    match a with
    | 0 =>
      have e : (runL L).val = 2 * (L 1).val + (L 0).val := rfl
      simp [Shape.partIx, Shape.partSize, -Fin.val_cast, e]; omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_ixK : (ixK L).view.set = ixSet (runL L) := by
  show ((View.whole (main_v1_scv : Ref sig .scVector)).slice (Rect.unit (s := S6400) (k0_off1 L) S200.size (k0_off1_inb L))).set = _
  rw [View.set_slice_whole, rect_ix]
omit [FloatOps F] in
theorem set_ouK : (ouK L).view.set = ouSet (runL L) := by
  show ((View.whole (main_v5_scv : Ref sig .scVector)).slice (Rect.unit (s := S6400x2x128) (k0_off2 L) S200x2x128.size (k0_off2_inb L))).set = _
  rw [View.set_slice_whole, rect_ou]

omit [FloatOps F] in
theorem pts_ixK (f : Buf (Elt F) (ixLoc d)) :
    ((ixK L).view.loc (thV d L) ↦[(ixK L).view.set]{fullShare} f : sProp (MM F)) = ixLoc d ↦[ixSet (runL L)]{fullShare} f := by
  rw [set_ixK]
omit [FloatOps F] in
theorem pts_ouK (f : Buf (Elt F) (ouLoc d)) :
    ((ouK L).view.loc (thV d L) ↦[(ouK L).view.set]{fullShare} f : sProp (MM F)) = ouLoc d ↦[ouSet (runL L)]{fullShare} f := by
  rw [set_ouK]

/-- The tile's three transfer cells: the fetch of the row numbers, the gather, the write-out. -/
abbrev fetCell (d : Dev nD) (L : grid0.Coords) : GSem nD τ sig := (thV d L, .dma cc0_scoped0.sem)
abbrev gatCell (d : Dev nD) (L : grid0.Coords) : GSem nD τ sig := (thV d L, .dma cc0_scratch2.sem)
abbrev outCell (d : Dev nD) (L : grid0.Coords) : GSem nD τ sig := (thV d L, .dma cc0_scoped1.sem)

omit [FloatOps F] in
/-- The tile's own counters at zero: the three cells' and the rest. -/
theorem ownSems_V :
    (ownSems0 (thV d L) : sProp (MM F))
      = iprop(semVal (fetCell d L) 0 ∗ semVal (gatCell d L) 0 ∗ semVal (outCell d L) 0
          ∗ bigSep ((((ownCells (thV d L)).erase (fetCell d L)).erase (gatCell d L)).erase (outCell d L)) fun g => semVal g 0) := by
  unfold SparseCore.Cfg.ownSems0
  rw [SparseCore.bigSep_erase' ((mem_ownCells (g := fetCell d L)).mpr ⟨rfl, by
      show (SemLoc.dma cc0_scoped0.sem : SemLoc sig).isScoped .scVector = true; decide⟩),
    SparseCore.bigSep_erase' (Finset.mem_erase.mpr ⟨by simp [fetCell, gatCell]; decide, (mem_ownCells (g := gatCell d L)).mpr ⟨rfl, by
      show (SemLoc.dma cc0_scratch2.sem : SemLoc sig).isScoped .scVector = true; decide⟩⟩),
    SparseCore.bigSep_erase' (Finset.mem_erase.mpr ⟨by simp [gatCell, outCell]; decide, Finset.mem_erase.mpr ⟨by simp [fetCell, outCell]; decide,
      (mem_ownCells (g := outCell d L)).mpr ⟨rfl, by show (SemLoc.dma cc0_scoped1.sem : SemLoc sig).isScoped .scVector = true; decide⟩⟩⟩)]

omit [FloatOps F] in
/-- The tile's own buffers: the list of row numbers and the rows, each at some contents, and the rest. -/
theorem ownBufs_V' :
    (ownBufs (thV d L) : sProp (MM F))
      = iprop((∃ f, (thV d L).loc cc0_scratch0 ↦{fullShare} f) ∗ (∃ f, (thV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### What the tile's transfers carry -/

variable (ix : (d : Dev nD) → Buf (Elt F) (ixLoc d)) (tb : (d : Dev nD) → Buf (Elt F) (tbLoc d)) (o₀ : (d : Dev nD) → Buf (Elt F) (ouLoc d))

/-- Every row number names a row of the table. -/
def InRange : Prop := ∀ (d : Dev nD) (j : S6400.Idx), BitVec.toNat (w := 32) (ix d j) < 1000

omit [FloatOps F] in
/-- The list the gather reads, entry by entry: the tile's run of the row numbers. -/
theorem list_read (f : Buf (Elt F) ((thV d L).loc cc0_scratch0)) (x : S200.Idx) :
    liM.view.read (Elt F) (View.write (Elt F) liM.view f ((ixK L).view.read (Elt F) (ix d)) Finset.univ) x = ix d ((ixK L).view.emb x) := by
  rw [View.write_whole_univ]
  simp only [Memref.view_whole, View.read_whole]
  exact (View.read_apply _ _).trans (cast_eq _ _)

omit [FloatOps F] in
theorem list_inb (h : InRange ix) (f : Buf (Elt F) ((thV d L).loc cc0_scratch0)) (pay : S200.Idx → Elt F .i32) (hp : pay = (ixK L).view.read (Elt F) (ix d)) :
    ∀ x, (liM.view.read (Elt F) (View.write (Elt F) liM.view f pay Finset.univ) x).toNat < S1000x2x128.size gathers_S1000x2x128_S200x2x128.axis := by
  subst hp; intro x
  rw [list_read]
  exact h d _

/-- The table as the tile addresses it is the whole table. -/
theorem tbK_read (f : Buf (Elt F) (tbLoc d)) (x : S1000x2x128.Idx) : tbK.view.read (Elt F) f x = f x := by
  refine (View.read_apply _ _).trans ((cast_eq _ _).trans (congrArg f ?_))
  funext b; refine Fin.ext ?_
  refine (ValueKit.view_emb_slice_whole_unit_val (main_v4_scv : Ref sig .scVector) _ _ _ x b).trans ?_
  match b with
  | 0 => exact Nat.zero_add _
  | 1 => exact Nat.zero_add _
  | 2 => exact Nat.zero_add _

set_option maxHeartbeats 1000000 in
/-- The rows the tile writes to its run are the gathered rows. -/
theorem out_val (h : InRange ix) (fs : Buf (Elt F) ((thV d L).loc cc0_scratch0)) (fr : Buf (Elt F) ((thV d L).loc cc0_scratch1))
    (hn : S200.numel = S200x2x128.size gathers_S1000x2x128_S200x2x128.axis')
    (hin : ∀ x, (liM.view.read (Elt F) (View.write (Elt F) liM.view fs ((ixK L).view.read (Elt F) (ix d)) Finset.univ) x).toNat < S1000x2x128.size gathers_S1000x2x128_S200x2x128.axis)
    (pay : S200x2x128.Idx → Elt F .f32)
    (hp : pay = rwM.view.read (Elt F) (View.write (Elt F) rwM.view fr (SparseCore.gatherPayload gathers_S1000x2x128_S200x2x128 (tbK.view.read (Elt F) (tb d))
        (SparseCore.rows (liM.view.read (Elt F) (View.write (Elt F) liM.view fs ((ixK L).view.read (Elt F) (ix d)) Finset.univ)) hn hin)) Finset.univ)) :
    ∀ j ∈ (ouK L).view.set, (ouK L).view.writes (Elt F) (o₀ d) [⟨Rect.whole S200x2x128, pay⟩] j = gOut ix tb d j := by
  intro j hj
  obtain ⟨y, rfl⟩ := View.exists_emb_of_mem_set _ hj
  have e1 : (ouK L).view.writes (Elt F) (o₀ d) [⟨Rect.whole S200x2x128, pay⟩] ((ouK L).view.emb y) = pay y := by
    have := congrFun (View.read_writes_whole (ouK L).view (o₀ d) pay) y
    rw [View.read_apply] at this
    exact (cast_eq _ _).symm.trans this
  rw [e1, hp, View.read_write_univ]
  show tbK.view.read (Elt F) (tb d) _ = tb d (srcIdx (ix d) _)
  rw [tbK_read]
  refine congrArg (tb d) ?_
  have hy : ∀ a, ((ouK L).view.emb y a).val = k0_off2 L a + (y a).val := fun a =>
    ValueKit.view_emb_slice_whole_unit_val (main_v5_scv : Ref sig .scVector) _ _ _ y a
  funext b
  match b with
  | 0 =>
    refine Fin.ext ?_
    refine (congrArg Fin.val (Shape.Gathers.idx_axis gathers_S1000x2x128_S200x2x128 _ y)).trans ?_
    unfold SparseCore.rows
    simp only []
    rw [list_read]
    have e2 : ((ixK L).view.emb (S200.rowMajor.symm (Fin.cast hn.symm (y gathers_S1000x2x128_S200x2x128.axis')))) = rowOf ((ouK L).view.emb y) := by
      funext a
      match a with
      | 0 =>
        refine Fin.ext ?_
        refine (ValueKit.view_emb_slice_whole_unit_val (main_v1_scv : Ref sig .scVector) _ _ _ _ 0).trans ?_
        refine Eq.trans ?_ (hy 0).symm
        have hs : (S200.rowMajor.symm (Fin.cast hn.symm (y gathers_S1000x2x128_S200x2x128.axis')) 0).val = (y 0).val := by
          rw [← Shape.rowMajor_val_one, Equiv.apply_symm_apply]
          rfl
        exact congrArg₂ (· + ·) (show k0_off1 L 0 = k0_off2 L 0 by rw [k0_off1_eq, k0_off2_eq]; rfl) hs
    rw [e2]
    exact (Nat.mod_eq_of_lt (h d (rowOf ((ouK L).view.emb y)))).symm
  | 1 =>
    refine Fin.ext ?_
    refine (Shape.Gathers.idx_of_ne gathers_S1000x2x128_S200x2x128 _ y 1 (by decide)).trans ?_
    refine Eq.trans ?_ (hy 1).symm
    exact (Nat.zero_add _).symm.trans (congrArg (· + (y 1).val) (show 0 = k0_off2 L 1 by rw [k0_off2_eq]; rfl))
  | 2 =>
    refine Fin.ext ?_
    refine (Shape.Gathers.idx_of_ne gathers_S1000x2x128_S200x2x128 _ y 2 (by decide)).trans ?_
    refine Eq.trans ?_ (hy 2).symm
    exact (Nat.zero_add _).symm.trans (congrArg (· + (y 2).val) (show 0 = k0_off2 L 2 by rw [k0_off2_eq]; rfl))

set_option maxHeartbeats 4000000 in
/-- The tile at coordinates `L`: the fetch of its row numbers, the gather of those rows, the write-out; its run of the
    result holds the gathered rows. -/
theorem tile_body (hF : (K (F := F)).Facts) (hpre : InRange ix) (O : CellTallies nD τ sig (HIx 1)) (W : Waits sig (HIx 1)) (hO : ∀ g, O g none = 0) :
    iprop(levAts (K (F := F)).L (K (F := F)).lev ∗ emp ∗ goP ix tb o₀ d (runL L)
        ∗ scopedBufs (thV d L) ∗ scopedSems0 (thV d L) ∗ owes (thV d L) O W)
      ⊢ wp frame (wpE (defs₀ (F := F)) 𝒱₀ (thV d L) none) Set.univ
          (cc0__gather_body L tbM (Memref.isWhole_whole _) ixM (Memref.isWhole_whole _) ouM (Memref.isWhole_whole _)
            liM (Memref.isWhole_whole _) rwM (Memref.isWhole_whole _) cc0_scratch2 cc0_scoped0 cc0_scoped1)
          fun _ => iprop(tdP ix tb d (runL L) ∗ scopedBufs (thV d L) ∗ scopedSems0 (thV d L)
            ∗ ∃ W', ⌜∀ p ∈ W', p ∈ W ∨ p.2 = none⌝ ∗ owes (thV d L) O W') := by
  simp only [cc0__gather_body_eq_skeleton]; unfold cc0__gather_body_skel
  rw [(K (F := F)).scopedBufs_V hF d (cV L) (jV L), SparseCore.Cfg.scopedSems0_V (Val := Elt F) d (cV L) (jV L), ownSems_V, ownBufs_V']
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thV d L) (default : HIx 1) O from
    (K (F := F)).mayWaits_none (thr := thV d L) hO) $$ Hlv
  ihave Hi' := (Entails.of_eq (pts_ixK (F := F) d L _).symm) $$ Hi
  ihave Ho' := (Entails.of_eq (pts_ouK (F := F) d L _).symm) $$ Ho
  ihave Hx' := (show (tbLoc d ↦{tbShare (runL L)} tb d : sProp (MM F)) ⊢ (tbM.view.loc (thV d L) ↦{tbShare (runL L)} tb d) from .rfl) $$ Hx
  ihave Hs' := (show ((thV d L).loc cc0_scratch0 ↦{fullShare} fs : sProp (MM F)) ⊢ (liM.view.loc (thV d L) ↦{fullShare} fs) from .rfl) $$ Hs
  ihave Hr' := (show ((thV d L).loc cc0_scratch1 ↦{fullShare} fr : sProp (MM F)) ⊢ (rwM.view.loc (thV d L) ↦{fullShare} fr) from .rfl) $$ Hr
  sl_exec
  ihave Hxs := (pointsTo_split_subset (q := tbShare (runL L)) (f := tb d) (S := Finset.univ) (Finset.subset_univ tbK.view.set)).1 $$ Hx'
  icases Hxs with ⟨Hxs, Hxr⟩
  have hrs : rwM.view.set = Finset.univ := View.set_whole _
  have hss : liM.view.set = Finset.univ := View.set_whole _
  ihave Hr'' := (Entails.of_eq (show (rwM.view.loc (thV d L) ↦{fullShare} fr : sProp (MM F))
      = rwM.view.loc (thV d L) ↦[rwM.view.set]{fullShare} fr by rw [hrs])) $$ Hr'
  ihave Hs'' := (Entails.of_eq (show (liM.view.loc (thV d L) ↦{fullShare} View.write (Elt F) liM.view fs (tile_body.sl.dma0 d L ix) Finset.univ : sProp (MM F))
      = liM.view.loc (thV d L) ↦[liM.view.set]{fullShare} View.write (Elt F) liM.view fs (tile_body.sl.dma0 d L ix) Finset.univ
      by rw [hss])) $$ Hs'
  have hN : ∀ h : S1000x2x128.Gathers 0 S200x2x128, ∑ j, (rwM.slice (S200x2x128.rowRect h.axis' j) (S200x2x128.stride_rowRect h.axis' j)).view.dmaCredit
      = rwM.view.dmaCredit := by decide +kernel
  iapply (SparseCore.wp_indirectGatherLocal countersEmb 𝒱₀ (thV d L) none (hg := gathers_S1000x2x128_S200x2x128) (default : HIx 1)
      rwM.view.dmaCredit (hN _) (by decide) (list_inb d L ix hpre fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (thV d L) none (default : HIx 1) (rfl : rwM.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := tbShare (runL L)) (f := tb d) (S := Finset.univ) (Finset.subset_univ tbK.view.set)).2 $$ [Hxs Hxr]; · isplitl [Hxs] <;> iassumption
  ihave Hr3 := (Entails.of_eq (show (rwM.view.loc (thV d L) ↦[rwM.view.set]{fullShare} _ : sProp (MM F))
      = rwM.view.loc (thV d L) ↦{fullShare} _ by rw [hrs])) $$ Hr'
  ihave Hs3 := (Entails.of_eq (show (liM.view.loc (thV d L) ↦[liM.view.set]{fullShare} _ : sProp (MM F))
      = liM.view.loc (thV d L) ↦{fullShare} _ by rw [hss])) $$ Hs'
  sl_exec
  sl_step
  isplitl [Hi' Hx' Ho']
  · isplitl [Hi']; · iapply (Entails.of_eq (pts_ixK (F := F) d L _)); iexact Hi'
    isplitl [Hx']; · iexact Hx'
    iapply (Entails.of_eq (pts_ouK (F := F) d L _))
    iapply (Entails.of_eq (pointsTo_congr (out_val d L ix tb o₀ hpre fs fr (by decide) (list_inb d L ix hpre fs _ rfl) _ rfl)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro
  intro p hp
  simp only [Finset.mem_insert] at hp
  rcases hp with rfl | rfl | rfl | hp
  · exact .inr rfl
  · exact .inr rfl
  · exact .inr rfl
  · exact .inl hp

/-- The coordinates of tile `s` of SparseCore `c`. -/
def coordsOf (c : Fin (grid0.bound 0)) (s : Fin (grid0.bound 1)) : grid0.Coords :=
  fun | 0 => c | 1 => s | ⟨_ + 2, h⟩ => absurd h (Nat.not_lt.2 (Nat.le_add_left _ _))

/-- A tile's body is the gather at its own coordinates. -/
theorem body_vector (c : Fin τ.nSC) (s : Fin τ.nSub) :
    defs₀ (F := F) (.scVector c s) 0 ()
      = SparseCore.onTile hcore0 hsub0 (fun c s => cc0__gather_body (coordsOf c s)
          tbM (Memref.isWhole_whole _) ixM (Memref.isWhole_whole _) ouM (Memref.isWhole_whole _)
          liM (Memref.isWhole_whole _) rwM (Memref.isWhole_whole _) cc0_scratch2 cc0_scoped0 cc0_scoped1) ⟨⟩ c s := rfl

omit [FloatOps F] in
theorem weaken_waits {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro
    intro p hp
    rcases hW' p hp with h | h
    · exact .inl h
    · exact .inr (.inl h)
  · iexact HO

set_option maxRecDepth 16384 in
/-- Every tile's part of the one call. -/
theorem tileObl (hF : (K (F := F)).Facts) (hpre : InRange ix) : (K (F := F)).TileObl (D (F := F)) 𝒱 (P ix tb o₀) v₀ 0 := by
  intro d c i O W hO _ _
  simp only [show (P ix tb o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_vector]; simp only [SparseCore.onTile, hci, and_self, ↓reduceDIte]
  exact (tile_body d (coordsOf ⟨_, hci.1⟩ ⟨_, hci.2⟩) ix tb o₀ hF hpre O W hO).trans (wp_mono frame _ _ fun _ => weaken_waits)

end Tile

end Cert.Proof.Whole

end
-- ==== Proof.Run.lean ====
/-
  The program's run: the row numbers and the table laid out, the rows gathered, the weights laid out, the three layers and
  the head run as one pipeline, and the output turned batch-first.  The buffers are followed through as one valuation.
-/
module

public import proofs.«01_k».proof.Proof.Region
public import proofs.«01_k».proof.Proof.Gather

@[expose] public section

noncomputable section

namespace Cert.Proof.Whole

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The host's operations -/

/-- Before the gather: the row numbers time-major, the table rounded to bf16 and widened again. -/
def ops1 : List (HloOp τ sig (Elt F)) :=
  [ StableHlo.unary main_arg0 main_v0 ((transpose S50x128 [1, 0] · transposes_S128x50_S50x128_1_0) : (⟨S128x50, .i32⟩ : BufTy).Contents (Elt F) → (⟨S50x128, .i32⟩ : BufTy).Contents (Elt F)),
    StableHlo.reshape main_v0 main_v1 (rfl : (.i32 : EltTy) = .i32) shapeCasts_S50x128_S6400,
    StableHlo.unary main_arg1 main_v2 ((truncf .bf16 · bitsLt_bf16_f32) : (⟨S1000x256, .f32⟩ : BufTy).Contents (Elt F) → (⟨S1000x256, .bf16⟩ : BufTy).Contents (Elt F)),
    StableHlo.unary main_v2 main_v3 ((extf .f32 · bitsLt_bf16_f32) : (⟨S1000x256, .bf16⟩ : BufTy).Contents (Elt F) → (⟨S1000x256, .f32⟩ : BufTy).Contents (Elt F)),
    StableHlo.reshape main_v3 main_v4 (rfl : (.f32 : EltTy) = .f32) shapeCasts_S1000x256_S1000x2x128 ]

/-- Between the gather and the pipeline: the rows as the pipeline's input, the weights transposed and rounded, the two biases added. -/
def ops2 : List (HloOp τ sig (Elt F)) :=
  [ StableHlo.unary main_v5 main_v6 ((truncf .bf16 · bitsLt_bf16_f32) : (⟨S6400x2x128, .f32⟩ : BufTy).Contents (Elt F) → (⟨S6400x2x128, .bf16⟩ : BufTy).Contents (Elt F)),
    StableHlo.reshape main_v6 main_v7 (rfl : (.bf16 : EltTy) = .bf16) shapeCasts_S6400x2x128_S50x128x256,
    StableHlo.unary main_arg2 main_v8 ((transpose S256x2048 [1, 0] · transposes_S2048x256_S256x2048_1_0) : (⟨S2048x256, .f32⟩ : BufTy).Contents (Elt F) → (⟨S256x2048, .f32⟩ : BufTy).Contents (Elt F)),
    StableHlo.unary main_v8 main_v9 ((truncf .bf16 · bitsLt_bf16_f32) : (⟨S256x2048, .f32⟩ : BufTy).Contents (Elt F) → (⟨S256x2048, .bf16⟩ : BufTy).Contents (Elt F)),
    StableHlo.unary main_arg3 main_v10 ((transpose S512x2048 [1, 0] · transposes_S2048x512_S512x2048_1_0) : (⟨S2048x512, .f32⟩ : BufTy).Contents (Elt F) → (⟨S512x2048, .f32⟩ : BufTy).Contents (Elt F)),
    StableHlo.unary main_v10 main_v11 ((truncf .bf16 · bitsLt_bf16_f32) : (⟨S512x2048, .f32⟩ : BufTy).Contents (Elt F) → (⟨S512x2048, .bf16⟩ : BufTy).Contents (Elt F)),
    StableHlo.unary main_arg6 main_v12 ((transpose S512x2048 [1, 0] · transposes_S2048x512_S512x2048_1_0) : (⟨S2048x512, .f32⟩ : BufTy).Contents (Elt F) → (⟨S512x2048, .f32⟩ : BufTy).Contents (Elt F)),
    StableHlo.unary main_v12 main_v13 ((truncf .bf16 · bitsLt_bf16_f32) : (⟨S512x2048, .f32⟩ : BufTy).Contents (Elt F) → (⟨S512x2048, .bf16⟩ : BufTy).Contents (Elt F)),
    StableHlo.unary main_arg7 main_v14 ((transpose S512x2048 [1, 0] · transposes_S2048x512_S512x2048_1_0) : (⟨S2048x512, .f32⟩ : BufTy).Contents (Elt F) → (⟨S512x2048, .f32⟩ : BufTy).Contents (Elt F)),
    StableHlo.unary main_v14 main_v15 ((truncf .bf16 · bitsLt_bf16_f32) : (⟨S512x2048, .f32⟩ : BufTy).Contents (Elt F) → (⟨S512x2048, .bf16⟩ : BufTy).Contents (Elt F)),
    StableHlo.unary main_arg10 main_v16 ((transpose S512x2048 [1, 0] · transposes_S2048x512_S512x2048_1_0) : (⟨S2048x512, .f32⟩ : BufTy).Contents (Elt F) → (⟨S512x2048, .f32⟩ : BufTy).Contents (Elt F)),
    StableHlo.unary main_v16 main_v17 ((truncf .bf16 · bitsLt_bf16_f32) : (⟨S512x2048, .f32⟩ : BufTy).Contents (Elt F) → (⟨S512x2048, .bf16⟩ : BufTy).Contents (Elt F)),
    StableHlo.unary main_arg11 main_v18 ((transpose S512x2048 [1, 0] · transposes_S2048x512_S512x2048_1_0) : (⟨S2048x512, .f32⟩ : BufTy).Contents (Elt F) → (⟨S512x2048, .f32⟩ : BufTy).Contents (Elt F)),
    StableHlo.unary main_v18 main_v19 ((truncf .bf16 · bitsLt_bf16_f32) : (⟨S512x2048, .f32⟩ : BufTy).Contents (Elt F) → (⟨S512x2048, .bf16⟩ : BufTy).Contents (Elt F)),
    StableHlo.binary main_arg4 main_arg5 main_v20 (addf : (⟨S2048, .f32⟩ : BufTy).Contents (Elt F) → (⟨S2048, .f32⟩ : BufTy).Contents (Elt F) → (⟨S2048, .f32⟩ : BufTy).Contents (Elt F)),
    StableHlo.reshape main_v20 main_v21 (rfl : (.f32 : EltTy) = .f32) shapeCasts_S2048_S1x2048,
    StableHlo.binary main_arg8 main_arg9 main_v22 (addf : (⟨S2048, .f32⟩ : BufTy).Contents (Elt F) → (⟨S2048, .f32⟩ : BufTy).Contents (Elt F) → (⟨S2048, .f32⟩ : BufTy).Contents (Elt F)),
    StableHlo.reshape main_v22 main_v23 (rfl : (.f32 : EltTy) = .f32) shapeCasts_S2048_S1x2048,
    StableHlo.binary main_arg12 main_arg13 main_v24 (addf : (⟨S2048, .f32⟩ : BufTy).Contents (Elt F) → (⟨S2048, .f32⟩ : BufTy).Contents (Elt F) → (⟨S2048, .f32⟩ : BufTy).Contents (Elt F)),
    StableHlo.reshape main_v24 main_v25 (rfl : (.f32 : EltTy) = .f32) shapeCasts_S2048_S1x2048,
    StableHlo.unary main_arg14 main_v26 ((transpose S512x1000 [1, 0] · transposes_S1000x512_S512x1000_1_0) : (⟨S1000x512, .f32⟩ : BufTy).Contents (Elt F) → (⟨S512x1000, .f32⟩ : BufTy).Contents (Elt F)),
    StableHlo.unary main_v26 main_v27 ((truncf .bf16 · bitsLt_bf16_f32) : (⟨S512x1000, .f32⟩ : BufTy).Contents (Elt F) → (⟨S512x1000, .bf16⟩ : BufTy).Contents (Elt F)),
    StableHlo.reshape main_arg15 main_v28 (rfl : (.f32 : EltTy) = .f32) shapeCasts_S1000_S1x1000 ]

/-- After the pipeline: the output batch-first. -/
def ops3 : List (HloOp τ sig (Elt F)) :=
  [ StableHlo.unary main_v29_0 main_v30 ((transpose S128x50x1000 [1, 0, 2] · transposes_S50x128x1000_S128x50x1000_1_0_2) : (⟨S50x128x1000, .f32⟩ : BufTy).Contents (Elt F) → (⟨S128x50x1000, .f32⟩ : BufTy).Contents (Elt F)) ]

theorem ops1_sub : ∀ op ∈ ops1 (F := F), op.bufs ⊆ Pipeline.ucRefs τ sig := fun op h => Pipeline.sub_ucRefs op (by
  unfold ops1 at h
  repeat (cases h with | head => simp only [StableHlo.unary_bufs_sub, StableHlo.binary_bufs_sub, StableHlo.reshape_bufs_sub] | tail _ h => ?_)
  exact nomatch h)
theorem ops1_fresh : ∀ op ∈ ops1 (F := F), op.fresh = ∅ := by
  intro _ h; unfold ops1 at h; (repeat (cases h with | head => rfl | tail _ h => ?_)); exact nomatch h
theorem ops2_sub : ∀ op ∈ ops2 (F := F), op.bufs ⊆ Pipeline.ucRefs τ sig := fun op h => Pipeline.sub_ucRefs op (by
  unfold ops2 at h
  repeat (cases h with | head => simp only [StableHlo.unary_bufs_sub, StableHlo.binary_bufs_sub, StableHlo.reshape_bufs_sub] | tail _ h => ?_)
  exact nomatch h)
theorem ops2_fresh : ∀ op ∈ ops2 (F := F), op.fresh = ∅ := by
  intro _ h; unfold ops2 at h; (repeat (cases h with | head => rfl | tail _ h => ?_)); exact nomatch h
theorem ops3_sub : ∀ op ∈ ops3 (F := F), op.bufs ⊆ Pipeline.ucRefs τ sig := fun op h => Pipeline.sub_ucRefs op (by
  unfold ops3 at h
  repeat (cases h with | head => simp only [StableHlo.unary_bufs_sub, StableHlo.binary_bufs_sub, StableHlo.reshape_bufs_sub] | tail _ h => ?_)
  exact nomatch h)
theorem ops3_fresh : ∀ op ∈ ops3 (F := F), op.fresh = ∅ := by
  intro _ h; unfold ops3 at h; (repeat (cases h with | head => rfl | tail _ h => ?_)); exact nomatch h

/-- The program: host operations, the gather, host operations, the pipeline, one host operation. -/
theorem main_eq (d : Dev nD) : main (F := F) d = (StableHlo.seq ops1 >>= fun _ => sc.run d 0 >>= fun _ => StableHlo.seq ops2 >>= fun _ =>
    Prog.lift (.customCall (SparseCore.inner (Pipeline.entry 0)) ()) >>= fun _ => StableHlo.seq ops3 >>= fun _ => pure ⟨⟩) := by
  simp only [main, ops1, ops2, ops3, StableHlo.seq, bind_assoc, pure_bind]

/-! ## The buffers along the run -/

variable (m : (ℓ : Loc nD τ sig) → Buf (Elt F) ℓ)

/-- At the launch; -/
def V0 (d : Dev nD) : Valuation τ sig (Elt F) := fun b => m (d, b)
/-- before the gather; -/
def V1 (d : Dev nD) : Valuation τ sig (Elt F) := StableHlo.after ops1 (V0 m d)
/-- the gather's row numbers, -/
def ixm (d : Dev nD) : Buf (Elt F) (ixLoc d) := V1 m d (Proc.devRef .tc main_v1)
/-- its table, -/
def tbm (d : Dev nD) : Buf (Elt F) (tbLoc d) := V1 m d (Proc.devRef .tc main_v4)
/-- and its result's buffer before it; -/
def oum (d : Dev nD) : Buf (Elt F) (ouLoc d) := V1 m d (Proc.devRef .tc main_v5)
/-- after the gather; -/
def W1 (d : Dev nD) : Valuation τ sig (Elt F) := Function.update (V1 m d) (Proc.devRef .tc main_v5) (gOut (ixm m) (tbm m) d)
/-- before the pipeline; -/
def V2 (d : Dev nD) : Valuation τ sig (Elt F) := StableHlo.after ops2 (W1 m d)
/-- after it; -/
def V3 (d : Dev nD) : Valuation τ sig (Elt F) := regionOut (V2 m) d
/-- at the end. -/
def V4 (d : Dev nD) : Valuation τ sig (Elt F) := StableHlo.after ops3 (V3 m d)

/-- The gather's three buffers. -/
def scRefs : Finset (DevRef τ sig) := {Proc.devRef .tc main_v1, Proc.devRef .tc main_v4, Proc.devRef .tc main_v5}

theorem scRefs_sub : scRefs ⊆ Pipeline.ucRefs τ sig := by
  intro b hb
  simp only [scRefs, Finset.mem_insert, Finset.mem_singleton] at hb
  refine Finset.mem_filter.mpr ⟨?_, ?_⟩
  · rcases hb with rfl | rfl | rfl <;> exact StableHlo.devRef_mem_tcRefs _
  · rcases hb with rfl | rfl | rfl <;> decide

theorem held_scRefs (d : Dev nD) (V : Valuation τ sig (Elt F)) : (StableHlo.held (d.tc : Thread nD τ) scRefs V : sProp (MM F))
    = iprop((ixLoc d ↦{fullShare} V (Proc.devRef .tc main_v1)) ∗ (tbLoc d ↦{fullShare} V (Proc.devRef .tc main_v4)) ∗ ouLoc d ↦{fullShare} V (Proc.devRef .tc main_v5)) := by
  unfold StableHlo.held scRefs
  rw [BI.bigSep_insert (by decide), BI.bigSep_insert (by decide), BI.bigSep_singleton]
  rfl

/-- The buffers before the gather, its three apart. -/
theorem held_V1 (d : Dev nD) : (StableHlo.held (d.tc : Thread nD τ) (Pipeline.ucRefs τ sig) (StableHlo.after ops1 (V0 m d)) : sProp (MM F))
    = iprop((bigSep Finset.univ fun c : Fin ((K (F := F)).nCore 0) => (P (ixm m) (tbm m) (oum m)).st 0 d c)
        ∗ StableHlo.held (d.tc : Thread nD τ) (Pipeline.ucRefs τ sig \ scRefs) (V1 m d)) := by
  rw [show StableHlo.after ops1 (V0 m d) = V1 m d from rfl, StableHlo.held_sub_split d.tc scRefs_sub, held_scRefs, st_eq]
  rfl

/-- The buffers after the gather. -/
theorem held_W1 (d : Dev nD) : (StableHlo.held (d.tc : Thread nD τ) (Pipeline.ucRefs τ sig) (W1 m d) : sProp (MM F))
    = iprop((bigSep Finset.univ fun c : Fin ((K (F := F)).nCore 0) => (P (ixm m) (tbm m) (oum m)).dn 0 d c)
        ∗ StableHlo.held (d.tc : Thread nD τ) (Pipeline.ucRefs τ sig \ scRefs) (V1 m d)) := by
  have h1 : W1 m d (Proc.devRef .tc main_v1) = ixm m d := Function.update_of_ne (StableHlo.devRef_ne_of_ne (by decide)) _ _
  have h4 : W1 m d (Proc.devRef .tc main_v4) = tbm m d := Function.update_of_ne (StableHlo.devRef_ne_of_ne (by decide)) _ _
  have h5 : W1 m d (Proc.devRef .tc main_v5) = gOut (ixm m) (tbm m) d := Function.update_self _ _ _
  have hr : ∀ b ∈ Pipeline.ucRefs τ sig \ scRefs, W1 m d b = V1 m d b := fun b hb => by
    refine Function.update_of_ne (fun e => (Finset.mem_sdiff.mp hb).2 ?_) _ _
    rw [e]; unfold scRefs; simp
  rw [StableHlo.held_sub_split d.tc scRefs_sub, held_scRefs, dn_eq, StableHlo.held_congr d.tc hr, h1, h4, h5]

/-- The pipeline's arrays are unscoped buffers. -/
theorem arr_sub : Pipeline.arrRefs spec1 ⊆ Pipeline.ucRefs τ sig := Pipeline.arrRefs_sub_ucRefs spec1 (by decide)

/-- Off the pipeline's arrays nothing changes in the region. -/
theorem held_V3 (d : Dev nD) : (StableHlo.held (d.tc : Thread nD τ) (Pipeline.ucRefs τ sig) (V3 m d) : sProp (MM F))
    = iprop(StableHlo.held (d.tc : Thread nD τ) (Pipeline.arrRefs spec1) (regionOut (V2 m) d) ∗ StableHlo.held (d.tc : Thread nD τ) (Pipeline.ucRefs τ sig \ Pipeline.arrRefs spec1) (V2 m d)) := by
  have hm : ∀ w : Fin 15, Proc.devRef .tc (Pipeline.arrRef spec1 w) ∈ Pipeline.arrRefs spec1 (τ := τ) := fun w => Finset.mem_map_of_mem _ (Finset.mem_image_of_mem _ (Finset.mem_univ w))
  have hr : ∀ b ∈ Pipeline.ucRefs τ sig \ Pipeline.arrRefs spec1, V3 m d b = V2 m d b := fun b hb => by
    have hn := (Finset.mem_sdiff.mp hb).2
    exact regionOut_of_ne (V2 m) d b (fun e => hn (e ▸ hm 12)) (fun e => hn (e ▸ hm 13)) (fun e => hn (e ▸ hm 14))
  rw [StableHlo.held_sub_split d.tc arr_sub, StableHlo.held_congr d.tc hr]
  rfl

/-! ## The TensorCore's program -/

variable (ρ : Dev nD → PrngReg)

/-- Between the gather and the program's end the TensorCore owes nothing. -/
theorem tcSt_one (d : Dev nD) : ((K (F := F)).tcSt EH d ((0 : Fin 1).val + 1) : sProp (MM F)) ⊢ iprop(RO d ∗ (RO d -∗ (K (F := F)).tcSt EH d 1)) := by
  show ((K (F := F)).tcSt EH d 1 : sProp (MM F)) ⊢ _
  unfold SparseCore.Cfg.tcSt
  rw [(K (F := F)).Otc_end d (le_refl 1), show 8 * SparseCore.Cfg.Blocks.fst 1 1 1 = 8 from rfl]
  iintro ⟨HO, Hr⟩
  isplitl [HO]; · iexact HO
  iintro HO
  isplitl [HO]; · iexact HO
  iexact Hr

/-- The pipeline's cells and tokens on a device. -/
def G (d : Dev nD) : sProp (MM F) :=
  iprop(Pipeline.cellsGhost (Pipeline.pin (pcfgs (F := F)) adm) (EP (F := F)) 0 d ∗ Pipeline.toksInit (Pipeline.pin (pcfgs (F := F)) adm) (EP (F := F)) 0 d)

/-- What the program ends with: every unscoped buffer at its last contents. -/
def FIN (d : Dev nD) : sProp (MM F) := StableHlo.held (d.tc : Thread nD τ) (Pipeline.ucRefs τ sig) (V4 m d)

theorem held_V2 (d : Dev nD) : (StableHlo.held (d.tc : Thread nD τ) (Pipeline.ucRefs τ sig) (StableHlo.after ops2 (W1 m d)) : sProp (MM F))
    = iprop(StableHlo.held (d.tc : Thread nD τ) (Pipeline.arrRefs spec1) (V2 m d) ∗ StableHlo.held (d.tc : Thread nD τ) (Pipeline.ucRefs τ sig \ Pipeline.arrRefs spec1) (V2 m d)) :=
  StableHlo.held_sub_split d.tc arr_sub (V2 m d)

theorem reg_pre (d : Dev nD) : (reg (V2 m)).pre d = iprop(StableHlo.held (d.tc : Thread nD τ) (Pipeline.arrRefs spec1) (V2 m d) ∗ RO d) := rfl
theorem reg_post (d : Dev nD) : (reg (V2 m)).post d = iprop(StableHlo.held (d.tc : Thread nD τ) (Pipeline.arrRefs spec1) (regionOut (V2 m) d) ∗ RO d) := rfl

theorem unscopedBufs_V0 (d : Dev nD) : (unscopedBufs (Ix := HIx 1) (Name := ℕ) (U := UU) (Lvl := ℕ) d (fun b => m ((SparseCore.T (τ := τ) d).loc b)) : sProp (MM F))
    = StableHlo.held (d.tc : Thread nD τ) (Pipeline.ucRefs τ sig) (V0 m d) := by
  have e : (fun b : Ref sig .tc => m ((SparseCore.T (τ := τ) d).loc b)) = fun b : Ref sig .tc => V0 m d (Proc.devRef .tc b) := rfl
  rw [e]
  exact Pipeline.unscopedBufs_held d (V0 m d)

set_option backward.isDefEq.respectTransparency.types false in
set_option maxHeartbeats 1000000 in
theorem hmain [∀ e, Nonempty (Elt F e)] (κ : GSem nD τ sig → ℕ) (d : Dev nD) :
    iprop((K (F := F)).ctx EH (P (ixm m) (tbm m) (oum m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  have hu : (unscopedBufs (Ix := HIx 1) (Name := ℕ) (U := UU) (Lvl := ℕ) d (fun b => m ((SparseCore.T (τ := τ) d).loc b)) : sProp (MM F))
      = StableHlo.held (d.tc : Thread nD τ) (Pipeline.ucRefs τ sig) (V0 m d) := unscopedBufs_V0 m d
  rw [main_eq, hu]
  iintro ⟨#Hctx, Hst, ⟨Hb, Hh, Hts, -⟩, ⟨Hcg, Htk⟩⟩
  -- the operations before the gather
  iapply (StableHlo.wp_seq (defs := (K (F := F)).defs (D (F := F))) 𝒱 none Set.univ d (Pipeline.ucRefs τ sig) _ ops1 ops1_sub ops1_fresh (V0 m d)) $$ [Hb Hh]
  · isplitl [Hb] <;> iassumption
  iintro ⟨Hb, Hh⟩
  -- the gather
  ihave Hh2 := (Entails.of_eq (held_V1 m d)) $$ Hh
  icases Hh2 with ⟨Hs, Hr⟩
  rw [wp_bind]
  iapply ((K (F := F)).wp_run (D (F := F)) 𝒱 (EH := EH) (P := P (ixm m) (tbm m) (oum m)) κ d 0) $$ [Hst Hs Hb Hr Hts Hcg Htk]
  isplitr; · iexact Hctx
  isplitl [Hst]; · iexact Hst
  isplitl [Hs]; · iexact Hs
  iintro ⟨Hst, Hdn⟩
  ihave Hh := (Entails.of_eq (held_W1 m d).symm) $$ [Hdn Hr]
  · isplitl [Hdn] <;> iassumption
  -- the operations before the pipeline
  iapply (StableHlo.wp_seq (defs := (K (F := F)).defs (D (F := F))) 𝒱 none Set.univ d (Pipeline.ucRefs τ sig) _ ops2 ops2_sub ops2_fresh (W1 m d)) $$ [Hb Hh]
  · isplitl [Hb] <;> iassumption
  iintro ⟨Hb, Hh⟩
  -- the pipeline
  ihave Hh2 := (Entails.of_eq (held_V2 m d)) $$ Hh
  icases Hh2 with ⟨Ha, Hr⟩
  ihave Hst2 := (tcSt_one d) $$ Hst
  icases Hst2 with ⟨HO, Hst⟩
  rw [wp_bind]
  iapply ((K (F := F)).wp_liftProg (D (F := F)) 𝒱 (T d) Set.univ none (.op (.customCall (Pipeline.entry 0) ()) .ret) _)
  iapply (Pipeline.RegionSeg.wp (pcfgs (F := F)) adm (dats (bufsOf (V2 m))) (none : HIx 1) cellOf_inj (EP (F := F)) defs₀ 𝒱₀ (K (F := F)).L (K (F := F)).lev
    (reg (V2 m)) d none (fun _ h => nomatch h) .ret _) $$ [Hb Ha HO Hr Hst Hts Hcg Htk]
  isplitr [Hb Ha HO Hcg Htk]
  · iintro ⟨Hb, Hp⟩
    ihave Hp2 := (Entails.of_eq (reg_post m d)) $$ Hp
    icases Hp2 with ⟨Ha, HO⟩
    rw [wp_ret]
    imodintro
    ihave Hst := Hst $$ HO
    ihave Hh := (Entails.of_eq (held_V3 m d).symm) $$ [Ha Hr]
    · isplitl [Ha] <;> iassumption
    -- the operation after it
    iapply (StableHlo.wp_seq (defs := (K (F := F)).defs (D (F := F))) 𝒱 none Set.univ d (Pipeline.ucRefs τ sig) _ ops3 ops3_sub ops3_fresh (V3 m d)) $$ [Hb Hh]
    · isplitl [Hb] <;> iassumption
    iintro ⟨Hb, Hh⟩
    rw [wp_pure]
    imodintro
    isplitl [Hst]; · iexact Hst
    isplitl [Hh]; · unfold FIN V4; iexact Hh
    isplitl [Hb] <;> iassumption
  isplitl [Hb]; · iexact Hb
  isplitl [Ha HO]
  · iapply (Entails.of_eq (reg_pre m d).symm)
    isplitl [Ha]; · iexact Ha
    iexact HO
  isplitr
  · iapply ((K (F := F)).ctx_levAts κ); iexact Hctx
  isplitl [Hcg]; · iexact Hcg
  iexact Htk

/-! ## The launch -/

/-- One pipeline: a family over the pipelines is its one member. -/
theorem one_p (Φ : Fin 1 → Dev nD → sProp (MM F)) : (bigSep Finset.univ fun d : Dev nD => Φ 0 d) = bigSep Finset.univ fun d : Dev nD => bigSep Finset.univ fun p : Fin 1 => Φ p d :=
  bigSep_congr fun d _ => Eq.symm (show bigSep Finset.univ (fun p : Fin 1 => Φ p d) = Φ 0 d from bigSep_univ_of_subsingleton (0 : Fin 1))

/-- The launch's elements: the handshakes' cells and tokens, and every device's pipeline cells and tokens. -/
theorem hu₀ : (ownU (u₀ (F := F)) : sProp (MM F)) ⊢ |={Set.univ}=> iprop(BI.own (EH (initOf (K (F := F)).hsCells (K (F := F)).hsToks)) ∗ bigSep Finset.univ (G (F := F))
    ∗ bigSep Finset.univ fun thr : Thread nD τ => bigSep Finset.univ fun q : Fin 1 => (P (ixm m) (tbm m) (oum m)).x q thr) := by
  rw [show (bigSep Finset.univ fun thr : Thread nD τ => bigSep Finset.univ fun q : Fin 1 => (P (ixm m) (tbm m) (oum m)).x q thr) = bigSep Finset.univ fun _ : Thread nD τ => (BI.emp : sProp (MM F))
    from bigSep_congr fun _ _ => bigSep_univ_of_subsingleton (0 : Fin 1), bigSep_emp_const]
  refine ownU_u₀.trans ?_
  iintro ⟨HH, HP⟩
  imod (Pipeline.fund_ghost (Pipeline.pin (pcfgs (F := F)) adm) (EP (F := F)) cellOf_inj) $$ HP with ⟨Hc, Ht⟩
  imodintro
  isplitl [HH]; · iexact HH
  isplitl
  · unfold G
    rw [bigSep_sep']
    rw [one_p fun p d => Pipeline.cellsGhost (Pipeline.pin (pcfgs (F := F)) adm) (EP (F := F)) p d, one_p fun p d => Pipeline.toksInit (Pipeline.pin (pcfgs (F := F)) adm) (EP (F := F)) p d]
    isplitl [Hc]
    · iexact Hc
    · iexact Ht
  iempintro

/-- What a device's memory is at the end: every unscoped buffer at its last contents. -/
def fq (d : Dev nD) (s' : Phys nD τ sig (Elt F)) : Prop := ∀ b ∈ Pipeline.ucRefs τ sig, s'.mem.mem (d, b) = V4 m d b

set_option maxRecDepth 16384 in
theorem hfin (d : Dev nD) (s' : Phys nD τ sig (Elt F)) : iprop(FIN m d ∗ SI s') ⊢ (⌜fq m d s'⌝ : sProp (MM F)) := by
  unfold FIN fq
  generalize V4 m d = V
  have h1 : ∀ b ∈ Pipeline.ucRefs τ sig, iprop(StableHlo.held (d.tc : Thread nD τ) (Pipeline.ucRefs τ sig) V ∗ SI s') ⊢ (⌜s'.mem.mem (d, b) = V b⌝ : sProp (MM F)) := by
    intro b hb
    have he : (StableHlo.held (d.tc : Thread nD τ) (Pipeline.ucRefs τ sig) V : sProp (MM F)) ⊢ ((d, b) : Loc nD τ sig) ↦{fullShare} V b := bigSep_elim hb
    iintro ⟨Hh, HSI⟩
    ihave H := he $$ Hh
    ihave H := (SI_pointsTo_agree (st := s') (ℓ := (d, b)) (I := Finset.univ) (q := fullShare) (f := V b)) $$ [HSI H]
    · isplitl [HSI] <;> iassumption
    icases H with %h
    ipureintro; exact funext fun i => h i (Finset.mem_univ i)
  exact fun x hx b hb => h1 b hb x hx

/-- What the run establishes: every unscoped buffer at its last contents, every semaphore at zero. -/
def QC : PUnit × MemSt nD τ sig (Elt F) → Prop := fun r => (∀ (d : Dev nD), ∀ b ∈ Pipeline.ucRefs τ sig, r.2.mem (d, b) = V4 m d b) ∧ r.2.sem = fun _ => 0

theorem run_main [∀ e, Nonempty (Elt F e)] (hpre : InRange (ixm m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ixm m) (tbm m) (oum m)) (A := ∅) facts v₀
    (fun q hq => match q with | 0 => nomatch hq)
    (fun q _ => match q with | 0 => tileObl (ixm m) (tbm m) (oum m) facts hpre)
    (fun q _ => match q with | 0 => SparseCore.Cfg.VecSplit.of_plain (vecSplit (ixm m) (tbm m) (oum m)))
    m ρ main (G (F := F)) (FIN m) (u₀ (F := F)) (sep_elim_left.trans (hu₀ m)) (hmain m ρ) (fq m) (hfin m) (QC m) (fun _ h hz => ⟨h, hz⟩)

end Cert.Proof.Whole

end
-- ==== Proof.Vals.lean ====
/-
  The buffers along the run as functions of the launch's arguments, and what follows for the arguments themselves.
-/
module

public import proofs.«01_k».proof.Proof.Run
public import proofs.«01_k».proof.Defs
public import proofs.«01_k».proof.Proof.Gen.Pre_in_range

@[expose] public section

noncomputable section

namespace Cert.Proof.Whole

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (d : Dev nD)

/-! ## The arguments are kept -/

/-- What the host's operations write before the gather, -/
abbrev writes1 : List (Ref sig .tc) := [main_v0, main_v1, main_v2, main_v3, main_v4]
/-- before the pipeline, -/
abbrev writes2 : List (Ref sig .tc) := [main_v6, main_v7, main_v8, main_v9, main_v10, main_v11, main_v12, main_v13, main_v14, main_v15, main_v16, main_v17, main_v18, main_v19, main_v20, main_v21, main_v22, main_v23, main_v24, main_v25, main_v26, main_v27, main_v28]
/-- and after it. -/
abbrev writes3 : List (Ref sig .tc) := [main_v30]

theorem V1_keep {r : Ref sig .tc} (h : r ∉ writes1) : V1 m d (Proc.devRef .tc r) = m (d, Proc.devRef .tc r) :=
  StableHlo.after_of_writes_sub ops1 (V0 m d) (StableHlo.forall_writes_sub_of_map (W := writes1) rfl) h

theorem W1_keep {r : Ref sig .tc} (h : r ∉ writes1) (h5 : r ≠ main_v5) : W1 m d (Proc.devRef .tc r) = m (d, Proc.devRef .tc r) :=
  (Function.update_of_ne (StableHlo.devRef_ne_of_ne h5) _ _).trans (V1_keep m d h)

theorem V2_keep {r : Ref sig .tc} (h : r ∉ writes1) (h5 : r ≠ main_v5) (h2 : r ∉ writes2) : V2 m d (Proc.devRef .tc r) = m (d, Proc.devRef .tc r) :=
  (StableHlo.after_of_writes_sub ops2 (W1 m d) (StableHlo.forall_writes_sub_of_map (W := writes2) rfl) h2).trans (W1_keep m d h h5)

theorem V4_of_V3 {r : Ref sig .tc} (h3 : r ∉ writes3) : V4 m d (Proc.devRef .tc r) = V3 m d (Proc.devRef .tc r) :=
  StableHlo.after_of_writes_sub ops3 (V3 m d) (StableHlo.forall_writes_sub_of_map (W := writes3) rfl) h3

theorem V4_keep {r : Ref sig .tc} (h : r ∉ writes1) (h5 : r ≠ main_v5) (h2 : r ∉ writes2) (h3 : r ∉ writes3)
    (h0 : r ≠ main_v29_0) (h1 : r ≠ main_v29_1) (hc : r ≠ main_v29_2) : V4 m d (Proc.devRef .tc r) = m (d, Proc.devRef .tc r) :=
  (V4_of_V3 m d h3).trans ((regionOut_of_ne (V2 m) d _ (StableHlo.devRef_ne_of_ne h0) (StableHlo.devRef_ne_of_ne h1) (StableHlo.devRef_ne_of_ne hc)).trans
    (V2_keep m d h h5 h2))

/-- An unscoped buffer of the TensorCore's is among those followed. -/
theorem mem_uc (r : Ref sig .tc) (h : (Proc.devRef (τ := τ) .tc r).isScoped = false) : Proc.devRef .tc r ∈ Pipeline.ucRefs τ sig :=
  Finset.mem_filter.mpr ⟨StableHlo.devRef_mem_tcRefs r, by simp [h]⟩

/-! ## The values -/

theorem V1_v1 : V1 m d (Proc.devRef .tc main_v1) = shapeCast S6400 (transpose S50x128 [1, 0] (m (d, Proc.devRef .tc main_arg0)) transposes_S128x50_S50x128_1_0) shapeCasts_S50x128_S6400 := by
  unfold V1 ops1; after_results_simp; rfl

theorem V1_v4 : V1 m d (Proc.devRef .tc main_v4) = shapeCast S1000x2x128 (extf .f32 (truncf .bf16 (s := S1000x256) (φ := .f32) (m (d, Proc.devRef .tc main_arg1)) bitsLt_bf16_f32) bitsLt_bf16_f32) shapeCasts_S1000x256_S1000x2x128 := by
  unfold V1 ops1; after_results_simp; rfl

theorem V2_v9 : V2 m d (Proc.devRef .tc main_v9) = truncf .bf16 (transpose S256x2048 [1, 0] (m (d, Proc.devRef .tc main_arg2)) transposes_S2048x256_S256x2048_1_0 : FVec F S256x2048 .f32) bitsLt_bf16_f32 := by
  unfold V2 ops2; after_results_simp
  rw [W1_keep m d (r := main_arg2) (by decide) (by decide)]

theorem V2_v11 : V2 m d (Proc.devRef .tc main_v11) = truncf .bf16 (transpose S512x2048 [1, 0] (m (d, Proc.devRef .tc main_arg3)) transposes_S2048x512_S512x2048_1_0 : FVec F S512x2048 .f32) bitsLt_bf16_f32 := by
  unfold V2 ops2; after_results_simp
  rw [W1_keep m d (r := main_arg3) (by decide) (by decide)]

theorem V2_v13 : V2 m d (Proc.devRef .tc main_v13) = truncf .bf16 (transpose S512x2048 [1, 0] (m (d, Proc.devRef .tc main_arg6)) transposes_S2048x512_S512x2048_1_0 : FVec F S512x2048 .f32) bitsLt_bf16_f32 := by
  unfold V2 ops2; after_results_simp
  rw [W1_keep m d (r := main_arg6) (by decide) (by decide)]

theorem V2_v15 : V2 m d (Proc.devRef .tc main_v15) = truncf .bf16 (transpose S512x2048 [1, 0] (m (d, Proc.devRef .tc main_arg7)) transposes_S2048x512_S512x2048_1_0 : FVec F S512x2048 .f32) bitsLt_bf16_f32 := by
  unfold V2 ops2; after_results_simp
  rw [W1_keep m d (r := main_arg7) (by decide) (by decide)]

theorem V2_v17 : V2 m d (Proc.devRef .tc main_v17) = truncf .bf16 (transpose S512x2048 [1, 0] (m (d, Proc.devRef .tc main_arg10)) transposes_S2048x512_S512x2048_1_0 : FVec F S512x2048 .f32) bitsLt_bf16_f32 := by
  unfold V2 ops2; after_results_simp
  rw [W1_keep m d (r := main_arg10) (by decide) (by decide)]

theorem V2_v19 : V2 m d (Proc.devRef .tc main_v19) = truncf .bf16 (transpose S512x2048 [1, 0] (m (d, Proc.devRef .tc main_arg11)) transposes_S2048x512_S512x2048_1_0 : FVec F S512x2048 .f32) bitsLt_bf16_f32 := by
  unfold V2 ops2; after_results_simp
  rw [W1_keep m d (r := main_arg11) (by decide) (by decide)]

theorem V2_v27 : V2 m d (Proc.devRef .tc main_v27) = truncf .bf16 (transpose S512x1000 [1, 0] (m (d, Proc.devRef .tc main_arg14)) transposes_S1000x512_S512x1000_1_0 : FVec F S512x1000 .f32) bitsLt_bf16_f32 := by
  unfold V2 ops2; after_results_simp
  rw [W1_keep m d (r := main_arg14) (by decide) (by decide)]

theorem V2_v21 : V2 m d (Proc.devRef .tc main_v21) = shapeCast S1x2048 (addf (s := S2048) (φ := .f32) (m (d, Proc.devRef .tc main_arg4)) (m (d, Proc.devRef .tc main_arg5))) shapeCasts_S2048_S1x2048 := by
  unfold V2 ops2; after_results_simp
  rw [W1_keep m d (r := main_arg4) (by decide) (by decide), W1_keep m d (r := main_arg5) (by decide) (by decide)]; rfl

theorem V2_v23 : V2 m d (Proc.devRef .tc main_v23) = shapeCast S1x2048 (addf (s := S2048) (φ := .f32) (m (d, Proc.devRef .tc main_arg8)) (m (d, Proc.devRef .tc main_arg9))) shapeCasts_S2048_S1x2048 := by
  unfold V2 ops2; after_results_simp
  rw [W1_keep m d (r := main_arg8) (by decide) (by decide), W1_keep m d (r := main_arg9) (by decide) (by decide)]; rfl

theorem V2_v25 : V2 m d (Proc.devRef .tc main_v25) = shapeCast S1x2048 (addf (s := S2048) (φ := .f32) (m (d, Proc.devRef .tc main_arg12)) (m (d, Proc.devRef .tc main_arg13))) shapeCasts_S2048_S1x2048 := by
  unfold V2 ops2; after_results_simp
  rw [W1_keep m d (r := main_arg12) (by decide) (by decide), W1_keep m d (r := main_arg13) (by decide) (by decide)]; rfl

theorem V2_v28 : V2 m d (Proc.devRef .tc main_v28) = shapeCast S1x1000 (m (d, Proc.devRef .tc main_arg15)) shapeCasts_S1000_S1x1000 := by
  unfold V2 ops2; after_results_simp
  rw [W1_keep m d (r := main_arg15) (by decide) (by decide)]; rfl

theorem V2_v7 : V2 m d (Proc.devRef .tc main_v7) = shapeCast S50x128x256 (truncf .bf16 (s := S6400x2x128) (φ := .f32) (gOut (ixm m) (tbm m) d) bitsLt_bf16_f32) shapeCasts_S6400x2x128_S50x128x256 := by
  unfold V2 ops2; after_results_simp
  rw [show W1 m d (Proc.devRef .tc main_v5) = gOut (ixm m) (tbm m) d from Function.update_self _ _ _]; rfl

theorem V4_v30 : V4 m d (Proc.devRef .tc main_v30) = transpose S128x50x1000 [1, 0, 2] (outA (bufsOf (V2 m)) d) transposes_S50x128x1000_S128x50x1000_1_0_2 := by
  unfold V4 ops3; after_results_simp
  rw [show V3 m d (Proc.devRef .tc main_v29_0) = outA (bufsOf (V2 m)) d from regionOut_0 (V2 m) d]
theorem V4_v29_1 : V4 m d (Proc.devRef .tc main_v29_1) = hnW 52 (st (bufsOf (V2 m)) d 52) :=
  (V4_of_V3 m d (by decide)).trans (regionOut_1 (V2 m) d)
theorem V4_v29_2 : V4 m d (Proc.devRef .tc main_v29_2) = cnW 52 (st (bufsOf (V2 m)) d 52) :=
  (V4_of_V3 m d (by decide)).trans (regionOut_2 (V2 m) d)

/-! ## The precondition -/

/-- A word that the precondition passes is below 1000. -/
theorem word_lt (v : BitVec 32) (e : IntOp.andi (IntOp.cmpi .sge v 0#32) (IntOp.cmpi .slt v 1000#32) = 1#1) : v.toNat < 1000 := by
  have hand (p q : Bool) : IntOp.andi (BitVec.ofBool p) (BitVec.ofBool q) = BitVec.ofBool (p && q) := by
    cases p <;> cases q <;> decide
  have hone (p : Bool) : (BitVec.ofBool p = 1#1) = (p = true) := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at e
  omega

/-- Row numbers in range at the launch are in range at the gather. -/
theorem inRange_of (h : ∀ (d : Dev nD) (j : S128x50.Idx), BitVec.toNat (w := 32) (m (d, Proc.devRef .tc main_arg0) j) < 1000) : InRange (ixm m) := by
  intro d j
  unfold ixm
  rw [V1_v1]
  exact h d _

end Cert.Proof.Whole

end
-- ==== Proof.RefRun.lean ====
/-
  The reference's run over one time step at a time (untrusted): the trip of the reference's time loop is restated over the
  standalone step of `Gen/ReferenceIdeal/Step.lean`, value by value, and the results are the fields of that step iterated
  from its initial state.
-/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_14 : V0 (Proc.devRef .tc main_v10_14) = s.main_v10_14
  f_15 : V0 (Proc.devRef .tc main_v10_15) = s.main_v10_15
  f_16 : V0 (Proc.devRef .tc main_v10_16) = s.main_v10_16
  f_17 : V0 (Proc.devRef .tc main_v10_17) = s.main_v10_17
  f_18 : V0 (Proc.devRef .tc main_v10_18) = s.main_v10_18
  f_19 : V0 (Proc.devRef .tc main_v10_19) = s.main_v10_19
  f_20 : V0 (Proc.devRef .tc main_v10_20) = s.main_v10_20
  f_0 : V0 (Proc.devRef .tc main_v10_0) = s.main_v10_0
  f_1 : V0 (Proc.devRef .tc main_v10_1) = s.main_v10_1
  f_2 : V0 (Proc.devRef .tc main_v10_2) = s.main_v10_2
  f_3 : V0 (Proc.devRef .tc main_v10_3) = s.main_v10_3
  f_4 : V0 (Proc.devRef .tc main_v10_4) = s.main_v10_4
  f_5 : V0 (Proc.devRef .tc main_v10_5) = s.main_v10_5
  f_6 : V0 (Proc.devRef .tc main_v10_6) = s.main_v10_6
  f_7 : V0 (Proc.devRef .tc main_v10_7) = s.main_v10_7
  f_8 : V0 (Proc.devRef .tc main_v10_8) = s.main_v10_8
  f_9 : V0 (Proc.devRef .tc main_v10_9) = s.main_v10_9
  f_10 : V0 (Proc.devRef .tc main_v10_10) = s.main_v10_10
  f_11 : V0 (Proc.devRef .tc main_v10_11) = s.main_v10_11
  f_12 : V0 (Proc.devRef .tc main_v10_12) = s.main_v10_12
  n_13 : V0 (Proc.devRef .tc main_v10_13) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x128x256 (V0 (Proc.devRef .tc main_v10_0)) (fun k => (((![V0 (Proc.devRef .tc main_v10_13), constantI S_ 32 0#32, constantI S_ 32 0#32] : Fin 3 → (⟨S_, .i32⟩ : BufTy).Contents (Elt F))) k (Shape.Idx.first h_S_)).toInt) sliceFits_S50x128x256_S1x128x256 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_13]
  try rfl
set_option maxRecDepth 8192 in
theorem al_3 (h : Holds V0 s j) : (shapeCast S128x256 (Host.dynamicSlice S1x128x256 (V0 (Proc.devRef .tc main_v10_0)) (fun k => (((![V0 (Proc.devRef .tc main_v10_13), constantI S_ 32 0#32, constantI S_ 32 0#32] : Fin 3 → (⟨S_, .i32⟩ : BufTy).Contents (Elt F))) k (Shape.Idx.first h_S_)).toInt) sliceFits_S50x128x256_S1x128x256) shapeCasts_S1x128x256_S128x256 : (Proc.devRef .tc main_while0b_v27 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (transpose S256x2048 [1, 0] (V0 (Proc.devRef .tc main_v10_1)) transposes_S2048x256_S256x2048_1_0 : (Proc.devRef .tc main_while0b_v28 : DevRef τ sig).ty.Contents (Elt F)) = Cert.ReferenceIdeal.Step.b4 j s := by
  unfold Cert.ReferenceIdeal.Step.b4
  rw [h.f_1]
  try rfl
set_option maxRecDepth 8192 in
theorem al_5 (h : Holds V0 s j) : (Host.dotGeneral dot_S128x256_S256x2048_S128x2048_1_0_0_1_n_n none (shapeCast S128x256 (Host.dynamicSlice S1x128x256 (V0 (Proc.devRef .tc main_v10_0)) (fun k => (((![V0 (Proc.devRef .tc main_v10_13), constantI S_ 32 0#32, constantI S_ 32 0#32] : Fin 3 → (⟨S_, .i32⟩ : BufTy).Contents (Elt F))) k (Shape.Idx.first h_S_)).toInt) sliceFits_S50x128x256_S1x128x256) shapeCasts_S1x128x256_S128x256) (transpose S256x2048 [1, 0] (V0 (Proc.devRef .tc main_v10_1)) transposes_S2048x256_S256x2048_1_0) : (Proc.devRef .tc main_while0b_v29 : DevRef τ sig).ty.Contents (Elt F)) = Cert.ReferenceIdeal.Step.b5 j s := by
  unfold Cert.ReferenceIdeal.Step.b5
  rw [← al_3 h, ← al_4 h]
  try rfl
set_option maxRecDepth 8192 in
theorem al_6 (h : Holds V0 s j) : (broadcastInDim S1x2048 ![1] bcast_S2048_S1x2048_1 (V0 (Proc.devRef .tc main_v10_2)) : (Proc.devRef .tc main_while0b_v30 : DevRef τ sig).ty.Contents (Elt F)) = Cert.ReferenceIdeal.Step.b6 j s := by
  unfold Cert.ReferenceIdeal.Step.b6
  rw [h.f_2]
  try rfl
set_option maxRecDepth 8192 in
theorem al_7 (h : Holds V0 s j) : (broadcastInDim S128x2048 ![0, 1] bcast_S1x2048_S128x2048_0_1 (broadcastInDim S1x2048 ![1] bcast_S2048_S1x2048_1 (V0 (Proc.devRef .tc main_v10_2))) : (Proc.devRef .tc main_while0b_v31 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (addf (Host.dotGeneral dot_S128x256_S256x2048_S128x2048_1_0_0_1_n_n none (shapeCast S128x256 (Host.dynamicSlice S1x128x256 (V0 (Proc.devRef .tc main_v10_0)) (fun k => (((![V0 (Proc.devRef .tc main_v10_13), constantI S_ 32 0#32, constantI S_ 32 0#32] : Fin 3 → (⟨S_, .i32⟩ : BufTy).Contents (Elt F))) k (Shape.Idx.first h_S_)).toInt) sliceFits_S50x128x256_S1x128x256) shapeCasts_S1x128x256_S128x256) (transpose S256x2048 [1, 0] (V0 (Proc.devRef .tc main_v10_1)) transposes_S2048x256_S256x2048_1_0)) (broadcastInDim S128x2048 ![0, 1] bcast_S1x2048_S128x2048_0_1 (broadcastInDim S1x2048 ![1] bcast_S2048_S1x2048_1 (V0 (Proc.devRef .tc main_v10_2)))) : (Proc.devRef .tc main_while0b_v32 : DevRef τ sig).ty.Contents (Elt F)) = Cert.ReferenceIdeal.Step.b8 j s := by
  unfold Cert.ReferenceIdeal.Step.b8
  rw [← al_5 h, ← al_7 h]
  try rfl
set_option maxRecDepth 8192 in
theorem al_9 (h : Holds V0 s j) : (transpose S512x2048 [1, 0] (V0 (Proc.devRef .tc main_v10_3)) transposes_S2048x512_S512x2048_1_0 : (Proc.devRef .tc main_while0b_v33 : DevRef τ sig).ty.Contents (Elt F)) = Cert.ReferenceIdeal.Step.b9 j s := by
  unfold Cert.ReferenceIdeal.Step.b9
  rw [h.f_3]
  try rfl
set_option maxRecDepth 8192 in
theorem al_10 (h : Holds V0 s j) : (Host.dotGeneral dot_S128x512_S512x2048_S128x2048_1_0_0_1_n_n none (V0 (Proc.devRef .tc main_v10_14)) (transpose S512x2048 [1, 0] (V0 (Proc.devRef .tc main_v10_3)) transposes_S2048x512_S512x2048_1_0) : (Proc.devRef .tc main_while0b_v34 : DevRef τ sig).ty.Contents (Elt F)) = Cert.ReferenceIdeal.Step.b10 j s := by
  unfold Cert.ReferenceIdeal.Step.b10
  rw [← al_9 h, h.f_14]
  try rfl
set_option maxRecDepth 8192 in
theorem al_11 (h : Holds V0 s j) : (addf (addf (Host.dotGeneral dot_S128x256_S256x2048_S128x2048_1_0_0_1_n_n none (shapeCast S128x256 (Host.dynamicSlice S1x128x256 (V0 (Proc.devRef .tc main_v10_0)) (fun k => (((![V0 (Proc.devRef .tc main_v10_13), constantI S_ 32 0#32, constantI S_ 32 0#32] : Fin 3 → (⟨S_, .i32⟩ : BufTy).Contents (Elt F))) k (Shape.Idx.first h_S_)).toInt) sliceFits_S50x128x256_S1x128x256) shapeCasts_S1x128x256_S128x256) (transpose S256x2048 [1, 0] (V0 (Proc.devRef .tc main_v10_1)) transposes_S2048x256_S256x2048_1_0)) (broadcastInDim S128x2048 ![0, 1] bcast_S1x2048_S128x2048_0_1 (broadcastInDim S1x2048 ![1] bcast_S2048_S1x2048_1 (V0 (Proc.devRef .tc main_v10_2))))) (Host.dotGeneral dot_S128x512_S512x2048_S128x2048_1_0_0_1_n_n none (V0 (Proc.devRef .tc main_v10_14)) (transpose S512x2048 [1, 0] (V0 (Proc.devRef .tc main_v10_3)) transposes_S2048x512_S512x2048_1_0)) : (Proc.devRef .tc main_while0b_v35 : DevRef τ sig).ty.Contents (Elt F)) = Cert.ReferenceIdeal.Step.b11 j s := by
  unfold Cert.ReferenceIdeal.Step.b11
  rw [← al_8 h, ← al_10 h]
  try rfl
set_option maxRecDepth 8192 in
theorem al_12 (h : Holds V0 s j) : (broadcastInDim S1x2048 ![1] bcast_S2048_S1x2048_1 (V0 (Proc.devRef .tc main_v10_4)) : (Proc.devRef .tc main_while0b_v36 : DevRef τ sig).ty.Contents (Elt F)) = Cert.ReferenceIdeal.Step.b12 j s := by
  unfold Cert.ReferenceIdeal.Step.b12
  rw [h.f_4]
  try rfl
set_option maxRecDepth 8192 in
theorem al_13 (h : Holds V0 s j) : (broadcastInDim S128x2048 ![0, 1] bcast_S1x2048_S128x2048_0_1 (broadcastInDim S1x2048 ![1] bcast_S2048_S1x2048_1 (V0 (Proc.devRef .tc main_v10_4))) : (Proc.devRef .tc main_while0b_v37 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (res_main_while0b_v38 V0 : (Proc.devRef .tc main_while0b_v38 : DevRef τ sig).ty.Contents (Elt F)) = Cert.ReferenceIdeal.Step.b14 j s := by
  unfold res_main_while0b_v38 Cert.ReferenceIdeal.Step.b14
  rw [← al_11 h, ← al_13 h]
  try rfl
set_option maxRecDepth 8192 in
theorem al_15 (h : Holds V0 s j) : (extractStridedSlice S128x512 ![0, 0] (res_main_while0b_v38 V0) slices_S128x2048_S128x512_0_0 : (Proc.devRef .tc main_while0b_v39 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (extractStridedSlice S128x512 ![0, 512] (res_main_while0b_v38 V0) slices_S128x2048_S128x512_0_512 : (Proc.devRef .tc main_while0b_v40 : DevRef τ sig).ty.Contents (Elt F)) = Cert.ReferenceIdeal.Step.b16 j s := by
  unfold Cert.ReferenceIdeal.Step.b16
  rw [← al_14 h]
  try rfl
set_option maxRecDepth 8192 in
theorem al_17 (h : Holds V0 s j) : (extractStridedSlice S128x512 ![0, 1024] (res_main_while0b_v38 V0) slices_S128x2048_S128x512_0_1024 : (Proc.devRef .tc main_while0b_v41 : DevRef τ sig).ty.Contents (Elt F)) = Cert.ReferenceIdeal.Step.b17 j s := by
  unfold Cert.ReferenceIdeal.Step.b17
  rw [← al_14 h]
  try rfl
set_option maxRecDepth 8192 in
theorem al_18 (h : Holds V0 s j) : (extractStridedSlice S128x512 ![0, 1536] (res_main_while0b_v38 V0) slices_S128x2048_S128x512_0_1536 : (Proc.devRef .tc main_while0b_v42 : DevRef τ sig).ty.Contents (Elt F)) = Cert.ReferenceIdeal.Step.b18 j s := by
  unfold Cert.ReferenceIdeal.Step.b18
  rw [← al_14 h]
  try rfl
set_option maxRecDepth 8192 in
theorem al_19 (h : Holds V0 s j) : (Host.negf (extractStridedSlice S128x512 ![0, 0] (res_main_while0b_v38 V0) slices_S128x2048_S128x512_0_0) : (Proc.devRef .tc main_while0b_v43 : DevRef τ sig).ty.Contents (Elt F)) = Cert.ReferenceIdeal.Step.b19 j s := by
  unfold Cert.ReferenceIdeal.Step.b19
  rw [← al_15 h]
  try rfl
set_option maxRecDepth 8192 in
theorem al_20 (h : Holds V0 s j) : (Host.exp (Host.negf (extractStridedSlice S128x512 ![0, 0] (res_main_while0b_v38 V0) slices_S128x2048_S128x512_0_0)) : (Proc.devRef .tc main_while0b_v44 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (constant S_ .f32 0x3F800000#32 : (Proc.devRef .tc main_while0b_cst_23 : DevRef τ sig).ty.Contents (Elt F)) = Cert.ReferenceIdeal.Step.b21 j s := by
  unfold Cert.ReferenceIdeal.Step.b21
  rfl
set_option maxRecDepth 8192 in
theorem al_22 (h : Holds V0 s j) : (broadcastInDim S128x512 ![] bcast_S_S128x512 (constant S_ .f32 0x3F800000#32) : (Proc.devRef .tc main_while0b_v45 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (addf (broadcastInDim S128x512 ![] bcast_S_S128x512 (constant S_ .f32 0x3F800000#32)) (Host.exp (Host.negf (extractStridedSlice S128x512 ![0, 0] (res_main_while0b_v38 V0) slices_S128x2048_S128x512_0_0))) : (Proc.devRef .tc main_while0b_v46 : DevRef τ sig).ty.Contents (Elt F)) = Cert.ReferenceIdeal.Step.b23 j s := by
  unfold Cert.ReferenceIdeal.Step.b23
  rw [← al_22 h, ← al_20 h]
  try rfl
set_option maxRecDepth 8192 in
theorem al_24 (h : Holds V0 s j) : (constant S_ .f32 0x3F800000#32 : (Proc.devRef .tc main_while0b_cst_24 : DevRef τ sig).ty.Contents (Elt F)) = Cert.ReferenceIdeal.Step.b24 j s := by
  unfold Cert.ReferenceIdeal.Step.b24
  rfl
set_option maxRecDepth 8192 in
theorem al_25 (h : Holds V0 s j) : (broadcastInDim S128x512 ![] bcast_S_S128x512 (constant S_ .f32 0x3F800000#32) : (Proc.devRef .tc main_while0b_v47 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 0] (res_main_while0b_v38 V0) slices_S128x2048_S128x512_0_0)))) : (Proc.devRef .tc main_while0b_v48 : DevRef τ sig).ty.Contents (Elt F)) = Cert.ReferenceIdeal.Step.b26 j s := by
  unfold Cert.ReferenceIdeal.Step.b26
  rw [← al_25 h, ← al_23 h]
  try rfl
set_option maxRecDepth 8192 in
theorem al_27 (h : Holds V0 s j) : (Host.negf (extractStridedSlice S128x512 ![0, 512] (res_main_while0b_v38 V0) slices_S128x2048_S128x512_0_512) : (Proc.devRef .tc main_while0b_v49 : DevRef τ sig).ty.Contents (Elt F)) = Cert.ReferenceIdeal.Step.b27 j s := by
  unfold Cert.ReferenceIdeal.Step.b27
  rw [← al_16 h]
  try rfl
set_option maxRecDepth 8192 in
theorem al_28 (h : Holds V0 s j) : (Host.exp (Host.negf (extractStridedSlice S128x512 ![0, 512] (res_main_while0b_v38 V0) slices_S128x2048_S128x512_0_512)) : (Proc.devRef .tc main_while0b_v50 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (constant S_ .f32 0x3F800000#32 : (Proc.devRef .tc main_while0b_cst_25 : DevRef τ sig).ty.Contents (Elt F)) = Cert.ReferenceIdeal.Step.b29 j s := by
  unfold Cert.ReferenceIdeal.Step.b29
  rfl
set_option maxRecDepth 8192 in
theorem al_30 (h : Holds V0 s j) : (broadcastInDim S128x512 ![] bcast_S_S128x512 (constant S_ .f32 0x3F800000#32) : (Proc.devRef .tc main_while0b_v51 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (addf (broadcastInDim S128x512 ![] bcast_S_S128x512 (constant S_ .f32 0x3F800000#32)) (Host.exp (Host.negf (extractStridedSlice S128x512 ![0, 512] (res_main_while0b_v38 V0) slices_S128x2048_S128x512_0_512))) : (Proc.devRef .tc main_while0b_v52 : DevRef τ sig).ty.Contents (Elt F)) = Cert.ReferenceIdeal.Step.b31 j s := by
  unfold Cert.ReferenceIdeal.Step.b31
  rw [← al_30 h, ← al_28 h]
  try rfl
set_option maxRecDepth 8192 in
theorem al_32 (h : Holds V0 s j) : (constant S_ .f32 0x3F800000#32 : (Proc.devRef .tc main_while0b_cst_26 : DevRef τ sig).ty.Contents (Elt F)) = Cert.ReferenceIdeal.Step.b32 j s := by
  unfold Cert.ReferenceIdeal.Step.b32
  rfl
set_option maxRecDepth 8192 in
theorem al_33 (h : Holds V0 s j) : (broadcastInDim S128x512 ![] bcast_S_S128x512 (constant S_ .f32 0x3F800000#32) : (Proc.devRef .tc main_while0b_v53 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 512] (res_main_while0b_v38 V0) slices_S128x2048_S128x512_0_512)))) : (Proc.devRef .tc main_while0b_v54 : DevRef τ sig).ty.Contents (Elt F)) = Cert.ReferenceIdeal.Step.b34 j s := by
  unfold Cert.ReferenceIdeal.Step.b34
  rw [← al_33 h, ← al_31 h]
  try rfl
set_option maxRecDepth 8192 in
theorem al_35 (h : Holds V0 s j) : (Host.tanh (extractStridedSlice S128x512 ![0, 1024] (res_main_while0b_v38 V0) slices_S128x2048_S128x512_0_1024) : (Proc.devRef .tc main_while0b_v55 : DevRef τ sig).ty.Contents (Elt F)) = Cert.ReferenceIdeal.Step.b35 j s := by
  unfold Cert.ReferenceIdeal.Step.b35
  rw [← al_17 h]
  try rfl
set_option maxRecDepth 8192 in
theorem al_36 (h : Holds V0 s j) : (Host.negf (extractStridedSlice S128x512 ![0, 1536] (res_main_while0b_v38 V0) slices_S128x2048_S128x512_0_1536) : (Proc.devRef .tc main_while0b_v56 : DevRef τ sig).ty.Contents (Elt F)) = Cert.ReferenceIdeal.Step.b36 j s := by
  unfold Cert.ReferenceIdeal.Step.b36
  rw [← al_18 h]
  try rfl
set_option maxRecDepth 8192 in
theorem al_37 (h : Holds V0 s j) : (Host.exp (Host.negf (extractStridedSlice S128x512 ![0, 1536] (res_main_while0b_v38 V0) slices_S128x2048_S128x512_0_1536)) : (Proc.devRef .tc main_while0b_v57 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (constant S_ .f32 0x3F800000#32 : (Proc.devRef .tc main_while0b_cst_27 : DevRef τ sig).ty.Contents (Elt F)) = Cert.ReferenceIdeal.Step.b38 j s := by
  unfold Cert.ReferenceIdeal.Step.b38
  rfl
set_option maxRecDepth 8192 in
theorem al_39 (h : Holds V0 s j) : (broadcastInDim S128x512 ![] bcast_S_S128x512 (constant S_ .f32 0x3F800000#32) : (Proc.devRef .tc main_while0b_v58 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (addf (broadcastInDim S128x512 ![] bcast_S_S128x512 (constant S_ .f32 0x3F800000#32)) (Host.exp (Host.negf (extractStridedSlice S128x512 ![0, 1536] (res_main_while0b_v38 V0) slices_S128x2048_S128x512_0_1536))) : (Proc.devRef .tc main_while0b_v59 : DevRef τ sig).ty.Contents (Elt F)) = Cert.ReferenceIdeal.Step.b40 j s := by
  unfold Cert.ReferenceIdeal.Step.b40
  rw [← al_39 h, ← al_37 h]
  try rfl
set_option maxRecDepth 8192 in
theorem al_41 (h : Holds V0 s j) : (constant S_ .f32 0x3F800000#32 : (Proc.devRef .tc main_while0b_cst_28 : DevRef τ sig).ty.Contents (Elt F)) = Cert.ReferenceIdeal.Step.b41 j s := by
  unfold Cert.ReferenceIdeal.Step.b41
  rfl
set_option maxRecDepth 8192 in
theorem al_42 (h : Holds V0 s j) : (broadcastInDim S128x512 ![] bcast_S_S128x512 (constant S_ .f32 0x3F800000#32) : (Proc.devRef .tc main_while0b_v60 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 1536] (res_main_while0b_v38 V0) slices_S128x2048_S128x512_0_1536)))) : (Proc.devRef .tc main_while0b_v61 : DevRef τ sig).ty.Contents (Elt F)) = Cert.ReferenceIdeal.Step.b43 j s := by
  unfold Cert.ReferenceIdeal.Step.b43
  rw [← al_42 h, ← al_40 h]
  try rfl
set_option maxRecDepth 8192 in
theorem al_44 (h : Holds V0 s j) : (mulf (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 512] (res_main_while0b_v38 V0) slices_S128x2048_S128x512_0_512))))) (V0 (Proc.devRef .tc main_v10_15)) : (Proc.devRef .tc main_while0b_v62 : DevRef τ sig).ty.Contents (Elt F)) = Cert.ReferenceIdeal.Step.b44 j s := by
  unfold Cert.ReferenceIdeal.Step.b44
  rw [← al_34 h, h.f_15]
  try rfl
set_option maxRecDepth 8192 in
theorem al_45 (h : Holds V0 s j) : (mulf (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 0] (res_main_while0b_v38 V0) slices_S128x2048_S128x512_0_0))))) (Host.tanh (extractStridedSlice S128x512 ![0, 1024] (res_main_while0b_v38 V0) slices_S128x2048_S128x512_0_1024)) : (Proc.devRef .tc main_while0b_v63 : DevRef τ sig).ty.Contents (Elt F)) = Cert.ReferenceIdeal.Step.b45 j s := by
  unfold Cert.ReferenceIdeal.Step.b45
  rw [← al_26 h, ← al_35 h]
  try rfl
set_option maxRecDepth 8192 in
theorem al_46 (h : Holds V0 s j) : (res_main_while0b_v64 V0 : (Proc.devRef .tc main_while0b_v64 : DevRef τ sig).ty.Contents (Elt F)) = Cert.ReferenceIdeal.Step.b46 j s := by
  unfold res_main_while0b_v64 Cert.ReferenceIdeal.Step.b46
  rw [← al_44 h, ← al_45 h]
  try rfl
set_option maxRecDepth 8192 in
theorem al_47 (h : Holds V0 s j) : (Host.tanh (res_main_while0b_v64 V0) : (Proc.devRef .tc main_while0b_v65 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (res_main_while0b_v66 V0 : (Proc.devRef .tc main_while0b_v66 : DevRef τ sig).ty.Contents (Elt F)) = Cert.ReferenceIdeal.Step.b48 j s := by
  unfold res_main_while0b_v66 Cert.ReferenceIdeal.Step.b48
  rw [← al_43 h, ← al_47 h]
  try rfl
set_option maxRecDepth 8192 in
theorem al_49 (h : Holds V0 s j) : (transpose S512x2048 [1, 0] (V0 (Proc.devRef .tc main_v10_5)) transposes_S2048x512_S512x2048_1_0 : (Proc.devRef .tc main_while0b_v67 : DevRef τ sig).ty.Contents (Elt F)) = Cert.ReferenceIdeal.Step.b49 j s := by
  unfold Cert.ReferenceIdeal.Step.b49
  rw [h.f_5]
  try rfl
set_option maxRecDepth 8192 in
theorem al_50 (h : Holds V0 s j) : (Host.dotGeneral dot_S128x512_S512x2048_S128x2048_1_0_0_1_n_n none (res_main_while0b_v66 V0) (transpose S512x2048 [1, 0] (V0 (Proc.devRef .tc main_v10_5)) transposes_S2048x512_S512x2048_1_0) : (Proc.devRef .tc main_while0b_v68 : DevRef τ sig).ty.Contents (Elt F)) = Cert.ReferenceIdeal.Step.b50 j s := by
  unfold Cert.ReferenceIdeal.Step.b50
  rw [← al_48 h, ← al_49 h]
  try rfl
set_option maxRecDepth 8192 in
theorem al_51 (h : Holds V0 s j) : (broadcastInDim S1x2048 ![1] bcast_S2048_S1x2048_1 (V0 (Proc.devRef .tc main_v10_6)) : (Proc.devRef .tc main_while0b_v69 : DevRef τ sig).ty.Contents (Elt F)) = Cert.ReferenceIdeal.Step.b51 j s := by
  unfold Cert.ReferenceIdeal.Step.b51
  rw [h.f_6]
  try rfl
set_option maxRecDepth 8192 in
theorem al_52 (h : Holds V0 s j) : (broadcastInDim S128x2048 ![0, 1] bcast_S1x2048_S128x2048_0_1 (broadcastInDim S1x2048 ![1] bcast_S2048_S1x2048_1 (V0 (Proc.devRef .tc main_v10_6))) : (Proc.devRef .tc main_while0b_v70 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (addf (Host.dotGeneral dot_S128x512_S512x2048_S128x2048_1_0_0_1_n_n none (res_main_while0b_v66 V0) (transpose S512x2048 [1, 0] (V0 (Proc.devRef .tc main_v10_5)) transposes_S2048x512_S512x2048_1_0)) (broadcastInDim S128x2048 ![0, 1] bcast_S1x2048_S128x2048_0_1 (broadcastInDim S1x2048 ![1] bcast_S2048_S1x2048_1 (V0 (Proc.devRef .tc main_v10_6)))) : (Proc.devRef .tc main_while0b_v71 : DevRef τ sig).ty.Contents (Elt F)) = Cert.ReferenceIdeal.Step.b53 j s := by
  unfold Cert.ReferenceIdeal.Step.b53
  rw [← al_50 h, ← al_52 h]
  try rfl
set_option maxRecDepth 8192 in
theorem al_54 (h : Holds V0 s j) : (transpose S512x2048 [1, 0] (V0 (Proc.devRef .tc main_v10_7)) transposes_S2048x512_S512x2048_1_0 : (Proc.devRef .tc main_while0b_v72 : DevRef τ sig).ty.Contents (Elt F)) = Cert.ReferenceIdeal.Step.b54 j s := by
  unfold Cert.ReferenceIdeal.Step.b54
  rw [h.f_7]
  try rfl
set_option maxRecDepth 8192 in
theorem al_55 (h : Holds V0 s j) : (Host.dotGeneral dot_S128x512_S512x2048_S128x2048_1_0_0_1_n_n none (V0 (Proc.devRef .tc main_v10_16)) (transpose S512x2048 [1, 0] (V0 (Proc.devRef .tc main_v10_7)) transposes_S2048x512_S512x2048_1_0) : (Proc.devRef .tc main_while0b_v73 : DevRef τ sig).ty.Contents (Elt F)) = Cert.ReferenceIdeal.Step.b55 j s := by
  unfold Cert.ReferenceIdeal.Step.b55
  rw [← al_54 h, h.f_16]
  try rfl
set_option maxRecDepth 8192 in
theorem al_56 (h : Holds V0 s j) : (addf (addf (Host.dotGeneral dot_S128x512_S512x2048_S128x2048_1_0_0_1_n_n none (res_main_while0b_v66 V0) (transpose S512x2048 [1, 0] (V0 (Proc.devRef .tc main_v10_5)) transposes_S2048x512_S512x2048_1_0)) (broadcastInDim S128x2048 ![0, 1] bcast_S1x2048_S128x2048_0_1 (broadcastInDim S1x2048 ![1] bcast_S2048_S1x2048_1 (V0 (Proc.devRef .tc main_v10_6))))) (Host.dotGeneral dot_S128x512_S512x2048_S128x2048_1_0_0_1_n_n none (V0 (Proc.devRef .tc main_v10_16)) (transpose S512x2048 [1, 0] (V0 (Proc.devRef .tc main_v10_7)) transposes_S2048x512_S512x2048_1_0)) : (Proc.devRef .tc main_while0b_v74 : DevRef τ sig).ty.Contents (Elt F)) = Cert.ReferenceIdeal.Step.b56 j s := by
  unfold Cert.ReferenceIdeal.Step.b56
  rw [← al_53 h, ← al_55 h]
  try rfl
set_option maxRecDepth 8192 in
theorem al_57 (h : Holds V0 s j) : (broadcastInDim S1x2048 ![1] bcast_S2048_S1x2048_1 (V0 (Proc.devRef .tc main_v10_8)) : (Proc.devRef .tc main_while0b_v75 : DevRef τ sig).ty.Contents (Elt F)) = Cert.ReferenceIdeal.Step.b57 j s := by
  unfold Cert.ReferenceIdeal.Step.b57
  rw [h.f_8]
  try rfl
set_option maxRecDepth 8192 in
theorem al_58 (h : Holds V0 s j) : (broadcastInDim S128x2048 ![0, 1] bcast_S1x2048_S128x2048_0_1 (broadcastInDim S1x2048 ![1] bcast_S2048_S1x2048_1 (V0 (Proc.devRef .tc main_v10_8))) : (Proc.devRef .tc main_while0b_v76 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (res_main_while0b_v77 V0 : (Proc.devRef .tc main_while0b_v77 : DevRef τ sig).ty.Contents (Elt F)) = Cert.ReferenceIdeal.Step.b59 j s := by
  unfold res_main_while0b_v77 Cert.ReferenceIdeal.Step.b59
  rw [← al_56 h, ← al_58 h]
  try rfl
set_option maxRecDepth 8192 in
theorem al_60 (h : Holds V0 s j) : (extractStridedSlice S128x512 ![0, 0] (res_main_while0b_v77 V0) slices_S128x2048_S128x512_0_0 : (Proc.devRef .tc main_while0b_v78 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (extractStridedSlice S128x512 ![0, 512] (res_main_while0b_v77 V0) slices_S128x2048_S128x512_0_512 : (Proc.devRef .tc main_while0b_v79 : DevRef τ sig).ty.Contents (Elt F)) = Cert.ReferenceIdeal.Step.b61 j s := by
  unfold Cert.ReferenceIdeal.Step.b61
  rw [← al_59 h]
  try rfl
set_option maxRecDepth 8192 in
theorem al_62 (h : Holds V0 s j) : (extractStridedSlice S128x512 ![0, 1024] (res_main_while0b_v77 V0) slices_S128x2048_S128x512_0_1024 : (Proc.devRef .tc main_while0b_v80 : DevRef τ sig).ty.Contents (Elt F)) = Cert.ReferenceIdeal.Step.b62 j s := by
  unfold Cert.ReferenceIdeal.Step.b62
  rw [← al_59 h]
  try rfl
set_option maxRecDepth 8192 in
theorem al_63 (h : Holds V0 s j) : (extractStridedSlice S128x512 ![0, 1536] (res_main_while0b_v77 V0) slices_S128x2048_S128x512_0_1536 : (Proc.devRef .tc main_while0b_v81 : DevRef τ sig).ty.Contents (Elt F)) = Cert.ReferenceIdeal.Step.b63 j s := by
  unfold Cert.ReferenceIdeal.Step.b63
  rw [← al_59 h]
  try rfl
set_option maxRecDepth 8192 in
theorem al_64 (h : Holds V0 s j) : (Host.negf (extractStridedSlice S128x512 ![0, 0] (res_main_while0b_v77 V0) slices_S128x2048_S128x512_0_0) : (Proc.devRef .tc main_while0b_v82 : DevRef τ sig).ty.Contents (Elt F)) = Cert.ReferenceIdeal.Step.b64 j s := by
  unfold Cert.ReferenceIdeal.Step.b64
  rw [← al_60 h]
  try rfl
set_option maxRecDepth 8192 in
theorem al_65 (h : Holds V0 s j) : (Host.exp (Host.negf (extractStridedSlice S128x512 ![0, 0] (res_main_while0b_v77 V0) slices_S128x2048_S128x512_0_0)) : (Proc.devRef .tc main_while0b_v83 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (constant S_ .f32 0x3F800000#32 : (Proc.devRef .tc main_while0b_cst_29 : DevRef τ sig).ty.Contents (Elt F)) = Cert.ReferenceIdeal.Step.b66 j s := by
  unfold Cert.ReferenceIdeal.Step.b66
  rfl
set_option maxRecDepth 8192 in
theorem al_67 (h : Holds V0 s j) : (broadcastInDim S128x512 ![] bcast_S_S128x512 (constant S_ .f32 0x3F800000#32) : (Proc.devRef .tc main_while0b_v84 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (addf (broadcastInDim S128x512 ![] bcast_S_S128x512 (constant S_ .f32 0x3F800000#32)) (Host.exp (Host.negf (extractStridedSlice S128x512 ![0, 0] (res_main_while0b_v77 V0) slices_S128x2048_S128x512_0_0))) : (Proc.devRef .tc main_while0b_v85 : DevRef τ sig).ty.Contents (Elt F)) = Cert.ReferenceIdeal.Step.b68 j s := by
  unfold Cert.ReferenceIdeal.Step.b68
  rw [← al_67 h, ← al_65 h]
  try rfl
set_option maxRecDepth 8192 in
theorem al_69 (h : Holds V0 s j) : (constant S_ .f32 0x3F800000#32 : (Proc.devRef .tc main_while0b_cst_30 : DevRef τ sig).ty.Contents (Elt F)) = Cert.ReferenceIdeal.Step.b69 j s := by
  unfold Cert.ReferenceIdeal.Step.b69
  rfl
set_option maxRecDepth 8192 in
theorem al_70 (h : Holds V0 s j) : (broadcastInDim S128x512 ![] bcast_S_S128x512 (constant S_ .f32 0x3F800000#32) : (Proc.devRef .tc main_while0b_v86 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 0] (res_main_while0b_v77 V0) slices_S128x2048_S128x512_0_0)))) : (Proc.devRef .tc main_while0b_v87 : DevRef τ sig).ty.Contents (Elt F)) = Cert.ReferenceIdeal.Step.b71 j s := by
  unfold Cert.ReferenceIdeal.Step.b71
  rw [← al_70 h, ← al_68 h]
  try rfl
set_option maxRecDepth 8192 in
theorem al_72 (h : Holds V0 s j) : (Host.negf (extractStridedSlice S128x512 ![0, 512] (res_main_while0b_v77 V0) slices_S128x2048_S128x512_0_512) : (Proc.devRef .tc main_while0b_v88 : DevRef τ sig).ty.Contents (Elt F)) = Cert.ReferenceIdeal.Step.b72 j s := by
  unfold Cert.ReferenceIdeal.Step.b72
  rw [← al_61 h]
  try rfl
set_option maxRecDepth 8192 in
theorem al_73 (h : Holds V0 s j) : (Host.exp (Host.negf (extractStridedSlice S128x512 ![0, 512] (res_main_while0b_v77 V0) slices_S128x2048_S128x512_0_512)) : (Proc.devRef .tc main_while0b_v89 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (constant S_ .f32 0x3F800000#32 : (Proc.devRef .tc main_while0b_cst_31 : DevRef τ sig).ty.Contents (Elt F)) = Cert.ReferenceIdeal.Step.b74 j s := by
  unfold Cert.ReferenceIdeal.Step.b74
  rfl
set_option maxRecDepth 8192 in
theorem al_75 (h : Holds V0 s j) : (broadcastInDim S128x512 ![] bcast_S_S128x512 (constant S_ .f32 0x3F800000#32) : (Proc.devRef .tc main_while0b_v90 : DevRef τ sig).ty.Contents (Elt F)) = Cert.ReferenceIdeal.Step.b75 j s := by
  unfold Cert.ReferenceIdeal.Step.b75
  rw [← al_74 h]
  try rfl
set_option maxRecDepth 8192 in
theorem al_76 (h : Holds V0 s j) : (addf (broadcastInDim S128x512 ![] bcast_S_S128x512 (constant S_ .f32 0x3F800000#32)) (Host.exp (Host.negf (extractStridedSlice S128x512 ![0, 512] (res_main_while0b_v77 V0) slices_S128x2048_S128x512_0_512))) : (Proc.devRef .tc main_while0b_v91 : DevRef τ sig).ty.Contents (Elt F)) = Cert.ReferenceIdeal.Step.b76 j s := by
  unfold Cert.ReferenceIdeal.Step.b76
  rw [← al_75 h, ← al_73 h]
  try rfl
set_option maxRecDepth 8192 in
theorem al_77 (h : Holds V0 s j) : (constant S_ .f32 0x3F800000#32 : (Proc.devRef .tc main_while0b_cst_32 : DevRef τ sig).ty.Contents (Elt F)) = Cert.ReferenceIdeal.Step.b77 j s := by
  unfold Cert.ReferenceIdeal.Step.b77
  rfl
set_option maxRecDepth 8192 in
theorem al_78 (h : Holds V0 s j) : (broadcastInDim S128x512 ![] bcast_S_S128x512 (constant S_ .f32 0x3F800000#32) : (Proc.devRef .tc main_while0b_v92 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 512] (res_main_while0b_v77 V0) slices_S128x2048_S128x512_0_512)))) : (Proc.devRef .tc main_while0b_v93 : DevRef τ sig).ty.Contents (Elt F)) = Cert.ReferenceIdeal.Step.b79 j s := by
  unfold Cert.ReferenceIdeal.Step.b79
  rw [← al_78 h, ← al_76 h]
  try rfl
set_option maxRecDepth 8192 in
theorem al_80 (h : Holds V0 s j) : (Host.tanh (extractStridedSlice S128x512 ![0, 1024] (res_main_while0b_v77 V0) slices_S128x2048_S128x512_0_1024) : (Proc.devRef .tc main_while0b_v94 : DevRef τ sig).ty.Contents (Elt F)) = Cert.ReferenceIdeal.Step.b80 j s := by
  unfold Cert.ReferenceIdeal.Step.b80
  rw [← al_62 h]
  try rfl
set_option maxRecDepth 8192 in
theorem al_81 (h : Holds V0 s j) : (Host.negf (extractStridedSlice S128x512 ![0, 1536] (res_main_while0b_v77 V0) slices_S128x2048_S128x512_0_1536) : (Proc.devRef .tc main_while0b_v95 : DevRef τ sig).ty.Contents (Elt F)) = Cert.ReferenceIdeal.Step.b81 j s := by
  unfold Cert.ReferenceIdeal.Step.b81
  rw [← al_63 h]
  try rfl
set_option maxRecDepth 8192 in
theorem al_82 (h : Holds V0 s j) : (Host.exp (Host.negf (extractStridedSlice S128x512 ![0, 1536] (res_main_while0b_v77 V0) slices_S128x2048_S128x512_0_1536)) : (Proc.devRef .tc main_while0b_v96 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (constant S_ .f32 0x3F800000#32 : (Proc.devRef .tc main_while0b_cst_33 : DevRef τ sig).ty.Contents (Elt F)) = Cert.ReferenceIdeal.Step.b83 j s := by
  unfold Cert.ReferenceIdeal.Step.b83
  rfl
set_option maxRecDepth 8192 in
theorem al_84 (h : Holds V0 s j) : (broadcastInDim S128x512 ![] bcast_S_S128x512 (constant S_ .f32 0x3F800000#32) : (Proc.devRef .tc main_while0b_v97 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (addf (broadcastInDim S128x512 ![] bcast_S_S128x512 (constant S_ .f32 0x3F800000#32)) (Host.exp (Host.negf (extractStridedSlice S128x512 ![0, 1536] (res_main_while0b_v77 V0) slices_S128x2048_S128x512_0_1536))) : (Proc.devRef .tc main_while0b_v98 : DevRef τ sig).ty.Contents (Elt F)) = Cert.ReferenceIdeal.Step.b85 j s := by
  unfold Cert.ReferenceIdeal.Step.b85
  rw [← al_84 h, ← al_82 h]
  try rfl
set_option maxRecDepth 8192 in
theorem al_86 (h : Holds V0 s j) : (constant S_ .f32 0x3F800000#32 : (Proc.devRef .tc main_while0b_cst_34 : DevRef τ sig).ty.Contents (Elt F)) = Cert.ReferenceIdeal.Step.b86 j s := by
  unfold Cert.ReferenceIdeal.Step.b86
  rfl
set_option maxRecDepth 8192 in
theorem al_87 (h : Holds V0 s j) : (broadcastInDim S128x512 ![] bcast_S_S128x512 (constant S_ .f32 0x3F800000#32) : (Proc.devRef .tc main_while0b_v99 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 1536] (res_main_while0b_v77 V0) slices_S128x2048_S128x512_0_1536)))) : (Proc.devRef .tc main_while0b_v100 : DevRef τ sig).ty.Contents (Elt F)) = Cert.ReferenceIdeal.Step.b88 j s := by
  unfold Cert.ReferenceIdeal.Step.b88
  rw [← al_87 h, ← al_85 h]
  try rfl
set_option maxRecDepth 8192 in
theorem al_89 (h : Holds V0 s j) : (mulf (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 512] (res_main_while0b_v77 V0) slices_S128x2048_S128x512_0_512))))) (V0 (Proc.devRef .tc main_v10_17)) : (Proc.devRef .tc main_while0b_v101 : DevRef τ sig).ty.Contents (Elt F)) = Cert.ReferenceIdeal.Step.b89 j s := by
  unfold Cert.ReferenceIdeal.Step.b89
  rw [← al_79 h, h.f_17]
  try rfl
set_option maxRecDepth 8192 in
theorem al_90 (h : Holds V0 s j) : (mulf (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 0] (res_main_while0b_v77 V0) slices_S128x2048_S128x512_0_0))))) (Host.tanh (extractStridedSlice S128x512 ![0, 1024] (res_main_while0b_v77 V0) slices_S128x2048_S128x512_0_1024)) : (Proc.devRef .tc main_while0b_v102 : DevRef τ sig).ty.Contents (Elt F)) = Cert.ReferenceIdeal.Step.b90 j s := by
  unfold Cert.ReferenceIdeal.Step.b90
  rw [← al_71 h, ← al_80 h]
  try rfl
set_option maxRecDepth 8192 in
theorem al_91 (h : Holds V0 s j) : (res_main_while0b_v103 V0 : (Proc.devRef .tc main_while0b_v103 : DevRef τ sig).ty.Contents (Elt F)) = Cert.ReferenceIdeal.Step.b91 j s := by
  unfold res_main_while0b_v103 Cert.ReferenceIdeal.Step.b91
  rw [← al_89 h, ← al_90 h]
  try rfl
set_option maxRecDepth 8192 in
theorem al_92 (h : Holds V0 s j) : (Host.tanh (res_main_while0b_v103 V0) : (Proc.devRef .tc main_while0b_v104 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (res_main_while0b_v105 V0 : (Proc.devRef .tc main_while0b_v105 : DevRef τ sig).ty.Contents (Elt F)) = Cert.ReferenceIdeal.Step.b93 j s := by
  unfold res_main_while0b_v105 Cert.ReferenceIdeal.Step.b93
  rw [← al_88 h, ← al_92 h]
  try rfl
set_option maxRecDepth 8192 in
theorem al_94 (h : Holds V0 s j) : (transpose S512x2048 [1, 0] (V0 (Proc.devRef .tc main_v10_9)) transposes_S2048x512_S512x2048_1_0 : (Proc.devRef .tc main_while0b_v106 : DevRef τ sig).ty.Contents (Elt F)) = Cert.ReferenceIdeal.Step.b94 j s := by
  unfold Cert.ReferenceIdeal.Step.b94
  rw [h.f_9]
  try rfl
set_option maxRecDepth 8192 in
theorem al_95 (h : Holds V0 s j) : (Host.dotGeneral dot_S128x512_S512x2048_S128x2048_1_0_0_1_n_n none (res_main_while0b_v105 V0) (transpose S512x2048 [1, 0] (V0 (Proc.devRef .tc main_v10_9)) transposes_S2048x512_S512x2048_1_0) : (Proc.devRef .tc main_while0b_v107 : DevRef τ sig).ty.Contents (Elt F)) = Cert.ReferenceIdeal.Step.b95 j s := by
  unfold Cert.ReferenceIdeal.Step.b95
  rw [← al_93 h, ← al_94 h]
  try rfl
set_option maxRecDepth 8192 in
theorem al_96 (h : Holds V0 s j) : (broadcastInDim S1x2048 ![1] bcast_S2048_S1x2048_1 (V0 (Proc.devRef .tc main_v10_10)) : (Proc.devRef .tc main_while0b_v108 : DevRef τ sig).ty.Contents (Elt F)) = Cert.ReferenceIdeal.Step.b96 j s := by
  unfold Cert.ReferenceIdeal.Step.b96
  rw [h.f_10]
  try rfl
set_option maxRecDepth 8192 in
theorem al_97 (h : Holds V0 s j) : (broadcastInDim S128x2048 ![0, 1] bcast_S1x2048_S128x2048_0_1 (broadcastInDim S1x2048 ![1] bcast_S2048_S1x2048_1 (V0 (Proc.devRef .tc main_v10_10))) : (Proc.devRef .tc main_while0b_v109 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (addf (Host.dotGeneral dot_S128x512_S512x2048_S128x2048_1_0_0_1_n_n none (res_main_while0b_v105 V0) (transpose S512x2048 [1, 0] (V0 (Proc.devRef .tc main_v10_9)) transposes_S2048x512_S512x2048_1_0)) (broadcastInDim S128x2048 ![0, 1] bcast_S1x2048_S128x2048_0_1 (broadcastInDim S1x2048 ![1] bcast_S2048_S1x2048_1 (V0 (Proc.devRef .tc main_v10_10)))) : (Proc.devRef .tc main_while0b_v110 : DevRef τ sig).ty.Contents (Elt F)) = Cert.ReferenceIdeal.Step.b98 j s := by
  unfold Cert.ReferenceIdeal.Step.b98
  rw [← al_95 h, ← al_97 h]
  try rfl
set_option maxRecDepth 8192 in
theorem al_99 (h : Holds V0 s j) : (transpose S512x2048 [1, 0] (V0 (Proc.devRef .tc main_v10_11)) transposes_S2048x512_S512x2048_1_0 : (Proc.devRef .tc main_while0b_v111 : DevRef τ sig).ty.Contents (Elt F)) = Cert.ReferenceIdeal.Step.b99 j s := by
  unfold Cert.ReferenceIdeal.Step.b99
  rw [h.f_11]
  try rfl
set_option maxRecDepth 8192 in
theorem al_100 (h : Holds V0 s j) : (Host.dotGeneral dot_S128x512_S512x2048_S128x2048_1_0_0_1_n_n none (V0 (Proc.devRef .tc main_v10_18)) (transpose S512x2048 [1, 0] (V0 (Proc.devRef .tc main_v10_11)) transposes_S2048x512_S512x2048_1_0) : (Proc.devRef .tc main_while0b_v112 : DevRef τ sig).ty.Contents (Elt F)) = Cert.ReferenceIdeal.Step.b100 j s := by
  unfold Cert.ReferenceIdeal.Step.b100
  rw [← al_99 h, h.f_18]
  try rfl
set_option maxRecDepth 8192 in
theorem al_101 (h : Holds V0 s j) : (addf (addf (Host.dotGeneral dot_S128x512_S512x2048_S128x2048_1_0_0_1_n_n none (res_main_while0b_v105 V0) (transpose S512x2048 [1, 0] (V0 (Proc.devRef .tc main_v10_9)) transposes_S2048x512_S512x2048_1_0)) (broadcastInDim S128x2048 ![0, 1] bcast_S1x2048_S128x2048_0_1 (broadcastInDim S1x2048 ![1] bcast_S2048_S1x2048_1 (V0 (Proc.devRef .tc main_v10_10))))) (Host.dotGeneral dot_S128x512_S512x2048_S128x2048_1_0_0_1_n_n none (V0 (Proc.devRef .tc main_v10_18)) (transpose S512x2048 [1, 0] (V0 (Proc.devRef .tc main_v10_11)) transposes_S2048x512_S512x2048_1_0)) : (Proc.devRef .tc main_while0b_v113 : DevRef τ sig).ty.Contents (Elt F)) = Cert.ReferenceIdeal.Step.b101 j s := by
  unfold Cert.ReferenceIdeal.Step.b101
  rw [← al_98 h, ← al_100 h]
  try rfl
set_option maxRecDepth 8192 in
theorem al_102 (h : Holds V0 s j) : (broadcastInDim S1x2048 ![1] bcast_S2048_S1x2048_1 (V0 (Proc.devRef .tc main_v10_12)) : (Proc.devRef .tc main_while0b_v114 : DevRef τ sig).ty.Contents (Elt F)) = Cert.ReferenceIdeal.Step.b102 j s := by
  unfold Cert.ReferenceIdeal.Step.b102
  rw [h.f_12]
  try rfl
set_option maxRecDepth 8192 in
theorem al_103 (h : Holds V0 s j) : (broadcastInDim S128x2048 ![0, 1] bcast_S1x2048_S128x2048_0_1 (broadcastInDim S1x2048 ![1] bcast_S2048_S1x2048_1 (V0 (Proc.devRef .tc main_v10_12))) : (Proc.devRef .tc main_while0b_v115 : DevRef τ sig).ty.Contents (Elt F)) = Cert.ReferenceIdeal.Step.b103 j s := by
  unfold Cert.ReferenceIdeal.Step.b103
  rw [← al_102 h]
  try rfl
set_option maxRecDepth 8192 in
theorem al_104 (h : Holds V0 s j) : (res_main_while0b_v116 V0 : (Proc.devRef .tc main_while0b_v116 : DevRef τ sig).ty.Contents (Elt F)) = Cert.ReferenceIdeal.Step.b104 j s := by
  unfold res_main_while0b_v116 Cert.ReferenceIdeal.Step.b104
  rw [← al_101 h, ← al_103 h]
  try rfl
set_option maxRecDepth 8192 in
theorem al_105 (h : Holds V0 s j) : (extractStridedSlice S128x512 ![0, 0] (res_main_while0b_v116 V0) slices_S128x2048_S128x512_0_0 : (Proc.devRef .tc main_while0b_v117 : DevRef τ sig).ty.Contents (Elt F)) = Cert.ReferenceIdeal.Step.b105 j s := by
  unfold Cert.ReferenceIdeal.Step.b105
  rw [← al_104 h]
  try rfl
set_option maxRecDepth 8192 in
theorem al_106 (h : Holds V0 s j) : (extractStridedSlice S128x512 ![0, 512] (res_main_while0b_v116 V0) slices_S128x2048_S128x512_0_512 : (Proc.devRef .tc main_while0b_v118 : DevRef τ sig).ty.Contents (Elt F)) = Cert.ReferenceIdeal.Step.b106 j s := by
  unfold Cert.ReferenceIdeal.Step.b106
  rw [← al_104 h]
  try rfl
set_option maxRecDepth 8192 in
theorem al_107 (h : Holds V0 s j) : (extractStridedSlice S128x512 ![0, 1024] (res_main_while0b_v116 V0) slices_S128x2048_S128x512_0_1024 : (Proc.devRef .tc main_while0b_v119 : DevRef τ sig).ty.Contents (Elt F)) = Cert.ReferenceIdeal.Step.b107 j s := by
  unfold Cert.ReferenceIdeal.Step.b107
  rw [← al_104 h]
  try rfl
set_option maxRecDepth 8192 in
theorem al_108 (h : Holds V0 s j) : (extractStridedSlice S128x512 ![0, 1536] (res_main_while0b_v116 V0) slices_S128x2048_S128x512_0_1536 : (Proc.devRef .tc main_while0b_v120 : DevRef τ sig).ty.Contents (Elt F)) = Cert.ReferenceIdeal.Step.b108 j s := by
  unfold Cert.ReferenceIdeal.Step.b108
  rw [← al_104 h]
  try rfl
set_option maxRecDepth 8192 in
theorem al_109 (h : Holds V0 s j) : (Host.negf (extractStridedSlice S128x512 ![0, 0] (res_main_while0b_v116 V0) slices_S128x2048_S128x512_0_0) : (Proc.devRef .tc main_while0b_v121 : DevRef τ sig).ty.Contents (Elt F)) = Cert.ReferenceIdeal.Step.b109 j s := by
  unfold Cert.ReferenceIdeal.Step.b109
  rw [← al_105 h]
  try rfl
set_option maxRecDepth 8192 in
theorem al_110 (h : Holds V0 s j) : (Host.exp (Host.negf (extractStridedSlice S128x512 ![0, 0] (res_main_while0b_v116 V0) slices_S128x2048_S128x512_0_0)) : (Proc.devRef .tc main_while0b_v122 : DevRef τ sig).ty.Contents (Elt F)) = Cert.ReferenceIdeal.Step.b110 j s := by
  unfold Cert.ReferenceIdeal.Step.b110
  rw [← al_109 h]
  try rfl
set_option maxRecDepth 8192 in
theorem al_111 (h : Holds V0 s j) : (constant S_ .f32 0x3F800000#32 : (Proc.devRef .tc main_while0b_cst_35 : DevRef τ sig).ty.Contents (Elt F)) = Cert.ReferenceIdeal.Step.b111 j s := by
  unfold Cert.ReferenceIdeal.Step.b111
  rfl
set_option maxRecDepth 8192 in
theorem al_112 (h : Holds V0 s j) : (broadcastInDim S128x512 ![] bcast_S_S128x512 (constant S_ .f32 0x3F800000#32) : (Proc.devRef .tc main_while0b_v123 : DevRef τ sig).ty.Contents (Elt F)) = Cert.ReferenceIdeal.Step.b112 j s := by
  unfold Cert.ReferenceIdeal.Step.b112
  rw [← al_111 h]
  try rfl
set_option maxRecDepth 8192 in
theorem al_113 (h : Holds V0 s j) : (addf (broadcastInDim S128x512 ![] bcast_S_S128x512 (constant S_ .f32 0x3F800000#32)) (Host.exp (Host.negf (extractStridedSlice S128x512 ![0, 0] (res_main_while0b_v116 V0) slices_S128x2048_S128x512_0_0))) : (Proc.devRef .tc main_while0b_v124 : DevRef τ sig).ty.Contents (Elt F)) = Cert.ReferenceIdeal.Step.b113 j s := by
  unfold Cert.ReferenceIdeal.Step.b113
  rw [← al_112 h, ← al_110 h]
  try rfl
set_option maxRecDepth 8192 in
theorem al_114 (h : Holds V0 s j) : (constant S_ .f32 0x3F800000#32 : (Proc.devRef .tc main_while0b_cst_36 : DevRef τ sig).ty.Contents (Elt F)) = Cert.ReferenceIdeal.Step.b114 j s := by
  unfold Cert.ReferenceIdeal.Step.b114
  rfl
set_option maxRecDepth 8192 in
theorem al_115 (h : Holds V0 s j) : (broadcastInDim S128x512 ![] bcast_S_S128x512 (constant S_ .f32 0x3F800000#32) : (Proc.devRef .tc main_while0b_v125 : DevRef τ sig).ty.Contents (Elt F)) = Cert.ReferenceIdeal.Step.b115 j s := by
  unfold Cert.ReferenceIdeal.Step.b115
  rw [← al_114 h]
  try rfl
set_option maxRecDepth 8192 in
theorem al_116 (h : Holds V0 s j) : (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 0] (res_main_while0b_v116 V0) slices_S128x2048_S128x512_0_0)))) : (Proc.devRef .tc main_while0b_v126 : DevRef τ sig).ty.Contents (Elt F)) = Cert.ReferenceIdeal.Step.b116 j s := by
  unfold Cert.ReferenceIdeal.Step.b116
  rw [← al_115 h, ← al_113 h]
  try rfl
set_option maxRecDepth 8192 in
theorem al_117 (h : Holds V0 s j) : (Host.negf (extractStridedSlice S128x512 ![0, 512] (res_main_while0b_v116 V0) slices_S128x2048_S128x512_0_512) : (Proc.devRef .tc main_while0b_v127 : DevRef τ sig).ty.Contents (Elt F)) = Cert.ReferenceIdeal.Step.b117 j s := by
  unfold Cert.ReferenceIdeal.Step.b117
  rw [← al_106 h]
  try rfl
set_option maxRecDepth 8192 in
theorem al_118 (h : Holds V0 s j) : (Host.exp (Host.negf (extractStridedSlice S128x512 ![0, 512] (res_main_while0b_v116 V0) slices_S128x2048_S128x512_0_512)) : (Proc.devRef .tc main_while0b_v128 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (constant S_ .f32 0x3F800000#32 : (Proc.devRef .tc main_while0b_cst_37 : DevRef τ sig).ty.Contents (Elt F)) = Cert.ReferenceIdeal.Step.b119 j s := by
  unfold Cert.ReferenceIdeal.Step.b119
  rfl
set_option maxRecDepth 8192 in
theorem al_120 (h : Holds V0 s j) : (broadcastInDim S128x512 ![] bcast_S_S128x512 (constant S_ .f32 0x3F800000#32) : (Proc.devRef .tc main_while0b_v129 : DevRef τ sig).ty.Contents (Elt F)) = Cert.ReferenceIdeal.Step.b120 j s := by
  unfold Cert.ReferenceIdeal.Step.b120
  rw [← al_119 h]
  try rfl
set_option maxRecDepth 8192 in
theorem al_121 (h : Holds V0 s j) : (addf (broadcastInDim S128x512 ![] bcast_S_S128x512 (constant S_ .f32 0x3F800000#32)) (Host.exp (Host.negf (extractStridedSlice S128x512 ![0, 512] (res_main_while0b_v116 V0) slices_S128x2048_S128x512_0_512))) : (Proc.devRef .tc main_while0b_v130 : DevRef τ sig).ty.Contents (Elt F)) = Cert.ReferenceIdeal.Step.b121 j s := by
  unfold Cert.ReferenceIdeal.Step.b121
  rw [← al_120 h, ← al_118 h]
  try rfl
set_option maxRecDepth 8192 in
theorem al_122 (h : Holds V0 s j) : (constant S_ .f32 0x3F800000#32 : (Proc.devRef .tc main_while0b_cst_38 : DevRef τ sig).ty.Contents (Elt F)) = Cert.ReferenceIdeal.Step.b122 j s := by
  unfold Cert.ReferenceIdeal.Step.b122
  rfl
set_option maxRecDepth 8192 in
theorem al_123 (h : Holds V0 s j) : (broadcastInDim S128x512 ![] bcast_S_S128x512 (constant S_ .f32 0x3F800000#32) : (Proc.devRef .tc main_while0b_v131 : DevRef τ sig).ty.Contents (Elt F)) = Cert.ReferenceIdeal.Step.b123 j s := by
  unfold Cert.ReferenceIdeal.Step.b123
  rw [← al_122 h]
  try rfl
set_option maxRecDepth 8192 in
theorem al_124 (h : Holds V0 s j) : (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 512] (res_main_while0b_v116 V0) slices_S128x2048_S128x512_0_512)))) : (Proc.devRef .tc main_while0b_v132 : DevRef τ sig).ty.Contents (Elt F)) = Cert.ReferenceIdeal.Step.b124 j s := by
  unfold Cert.ReferenceIdeal.Step.b124
  rw [← al_123 h, ← al_121 h]
  try rfl
set_option maxRecDepth 8192 in
theorem al_125 (h : Holds V0 s j) : (Host.tanh (extractStridedSlice S128x512 ![0, 1024] (res_main_while0b_v116 V0) slices_S128x2048_S128x512_0_1024) : (Proc.devRef .tc main_while0b_v133 : DevRef τ sig).ty.Contents (Elt F)) = Cert.ReferenceIdeal.Step.b125 j s := by
  unfold Cert.ReferenceIdeal.Step.b125
  rw [← al_107 h]
  try rfl
set_option maxRecDepth 8192 in
theorem al_126 (h : Holds V0 s j) : (Host.negf (extractStridedSlice S128x512 ![0, 1536] (res_main_while0b_v116 V0) slices_S128x2048_S128x512_0_1536) : (Proc.devRef .tc main_while0b_v134 : DevRef τ sig).ty.Contents (Elt F)) = Cert.ReferenceIdeal.Step.b126 j s := by
  unfold Cert.ReferenceIdeal.Step.b126
  rw [← al_108 h]
  try rfl
set_option maxRecDepth 8192 in
theorem al_127 (h : Holds V0 s j) : (Host.exp (Host.negf (extractStridedSlice S128x512 ![0, 1536] (res_main_while0b_v116 V0) slices_S128x2048_S128x512_0_1536)) : (Proc.devRef .tc main_while0b_v135 : DevRef τ sig).ty.Contents (Elt F)) = Cert.ReferenceIdeal.Step.b127 j s := by
  unfold Cert.ReferenceIdeal.Step.b127
  rw [← al_126 h]
  try rfl
set_option maxRecDepth 8192 in
theorem al_128 (h : Holds V0 s j) : (constant S_ .f32 0x3F800000#32 : (Proc.devRef .tc main_while0b_cst_39 : DevRef τ sig).ty.Contents (Elt F)) = Cert.ReferenceIdeal.Step.b128 j s := by
  unfold Cert.ReferenceIdeal.Step.b128
  rfl
set_option maxRecDepth 8192 in
theorem al_129 (h : Holds V0 s j) : (broadcastInDim S128x512 ![] bcast_S_S128x512 (constant S_ .f32 0x3F800000#32) : (Proc.devRef .tc main_while0b_v136 : DevRef τ sig).ty.Contents (Elt F)) = Cert.ReferenceIdeal.Step.b129 j s := by
  unfold Cert.ReferenceIdeal.Step.b129
  rw [← al_128 h]
  try rfl
set_option maxRecDepth 8192 in
theorem al_130 (h : Holds V0 s j) : (addf (broadcastInDim S128x512 ![] bcast_S_S128x512 (constant S_ .f32 0x3F800000#32)) (Host.exp (Host.negf (extractStridedSlice S128x512 ![0, 1536] (res_main_while0b_v116 V0) slices_S128x2048_S128x512_0_1536))) : (Proc.devRef .tc main_while0b_v137 : DevRef τ sig).ty.Contents (Elt F)) = Cert.ReferenceIdeal.Step.b130 j s := by
  unfold Cert.ReferenceIdeal.Step.b130
  rw [← al_129 h, ← al_127 h]
  try rfl
set_option maxRecDepth 8192 in
theorem al_131 (h : Holds V0 s j) : (constant S_ .f32 0x3F800000#32 : (Proc.devRef .tc main_while0b_cst_40 : DevRef τ sig).ty.Contents (Elt F)) = Cert.ReferenceIdeal.Step.b131 j s := by
  unfold Cert.ReferenceIdeal.Step.b131
  rfl
set_option maxRecDepth 8192 in
theorem al_132 (h : Holds V0 s j) : (broadcastInDim S128x512 ![] bcast_S_S128x512 (constant S_ .f32 0x3F800000#32) : (Proc.devRef .tc main_while0b_v138 : DevRef τ sig).ty.Contents (Elt F)) = Cert.ReferenceIdeal.Step.b132 j s := by
  unfold Cert.ReferenceIdeal.Step.b132
  rw [← al_131 h]
  try rfl
set_option maxRecDepth 8192 in
theorem al_133 (h : Holds V0 s j) : (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 1536] (res_main_while0b_v116 V0) slices_S128x2048_S128x512_0_1536)))) : (Proc.devRef .tc main_while0b_v139 : DevRef τ sig).ty.Contents (Elt F)) = Cert.ReferenceIdeal.Step.b133 j s := by
  unfold Cert.ReferenceIdeal.Step.b133
  rw [← al_132 h, ← al_130 h]
  try rfl
set_option maxRecDepth 8192 in
theorem al_134 (h : Holds V0 s j) : (mulf (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 512] (res_main_while0b_v116 V0) slices_S128x2048_S128x512_0_512))))) (V0 (Proc.devRef .tc main_v10_19)) : (Proc.devRef .tc main_while0b_v140 : DevRef τ sig).ty.Contents (Elt F)) = Cert.ReferenceIdeal.Step.b134 j s := by
  unfold Cert.ReferenceIdeal.Step.b134
  rw [← al_124 h, h.f_19]
  try rfl
set_option maxRecDepth 8192 in
theorem al_135 (h : Holds V0 s j) : (mulf (Host.divf (broadcastInDim S128x512 ![] bcast_S_S128x512 (constant S_ .f32 0x3F800000#32)) (addf (broadcastInDim S128x512 ![] bcast_S_S128x512 (constant S_ .f32 0x3F800000#32)) (Host.exp (Host.negf (extractStridedSlice S128x512 ![0, 0] (res_main_while0b_v116 V0) slices_S128x2048_S128x512_0_0))))) (Host.tanh (extractStridedSlice S128x512 ![0, 1024] (res_main_while0b_v116 V0) slices_S128x2048_S128x512_0_1024)) : (Proc.devRef .tc main_while0b_v141 : DevRef τ sig).ty.Contents (Elt F)) = Cert.ReferenceIdeal.Step.b135 j s := by
  unfold Cert.ReferenceIdeal.Step.b135
  rw [← al_116 h, ← al_125 h]
  try rfl
set_option maxRecDepth 8192 in
theorem al_136 (h : Holds V0 s j) : (res_main_while0b_v142 V0 : (Proc.devRef .tc main_while0b_v142 : DevRef τ sig).ty.Contents (Elt F)) = Cert.ReferenceIdeal.Step.b136 j s := by
  unfold res_main_while0b_v142 Cert.ReferenceIdeal.Step.b136
  rw [← al_134 h, ← al_135 h]
  try rfl
set_option maxRecDepth 8192 in
theorem al_137 (h : Holds V0 s j) : (Host.tanh (res_main_while0b_v142 V0) : (Proc.devRef .tc main_while0b_v143 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (res_main_while0b_v144 V0 : (Proc.devRef .tc main_while0b_v144 : DevRef τ sig).ty.Contents (Elt F)) = Cert.ReferenceIdeal.Step.b138 j s := by
  unfold res_main_while0b_v144 Cert.ReferenceIdeal.Step.b138
  rw [← al_133 h, ← al_137 h]
  try rfl
set_option maxRecDepth 8192 in
theorem al_139 (h : Holds V0 s j) : (broadcastInDim S1x128x512 ![1, 2] bcast_S128x512_S1x128x512_1_2 (res_main_while0b_v144 V0) : (Proc.devRef .tc main_while0b_call1_v0 : DevRef τ sig).ty.Contents (Elt F)) = Cert.ReferenceIdeal.Step.b139 j s := by
  unfold Cert.ReferenceIdeal.Step.b139
  rw [← al_138 h]
  try rfl
set_option maxRecDepth 8192 in
theorem al_140 (h : Holds V0 s j) : (constantI S_ 32 0#32 : (Proc.devRef .tc main_while0b_call1_c : DevRef τ sig).ty.Contents (Elt F)) = Cert.ReferenceIdeal.Step.b140 j s := by
  unfold Cert.ReferenceIdeal.Step.b140
  rfl
set_option maxRecDepth 8192 in
theorem al_141 (h : Holds V0 s j) : (constantI S_ 32 0#32 : (Proc.devRef .tc main_while0b_call1_c_0 : DevRef τ sig).ty.Contents (Elt F)) = Cert.ReferenceIdeal.Step.b141 j s := by
  unfold Cert.ReferenceIdeal.Step.b141
  rfl
set_option maxRecDepth 8192 in
theorem al_142 (h : Holds V0 s j) : (Host.dynamicUpdateSlice (V0 (Proc.devRef .tc main_v10_20)) (broadcastInDim S1x128x512 ![1, 2] bcast_S128x512_S1x128x512_1_2 (res_main_while0b_v144 V0)) (fun k => (((![V0 (Proc.devRef .tc main_v10_13), constantI S_ 32 0#32, constantI S_ 32 0#32] : Fin 3 → (⟨S_, .i32⟩ : BufTy).Contents (Elt F))) k (Shape.Idx.first h_S_)).toInt) updateFits_S50x128x512_S1x128x512 : (Proc.devRef .tc main_while0b_v145 : DevRef τ sig).ty.Contents (Elt F)) = Cert.ReferenceIdeal.Step.b142 j s := by
  unfold Cert.ReferenceIdeal.Step.b142
  rw [← al_139 h, ← al_140 h, ← al_141 h, h.f_20, h.n_13]
  try rfl

/-! One trip's step of the carried values is `step`, field by field; a counter steps to the next number. -/

theorem step_14 (h : Holds V0 s j) : step_main_v10_14 V0 = (step j s).main_v10_14 := by
  unfold step_main_v10_14 Cert.ReferenceIdeal.Step.step
  show id (res_main_while0b_v66 V0) = _
  rw [al_48 h]
  try rfl
theorem step_15 (h : Holds V0 s j) : step_main_v10_15 V0 = (step j s).main_v10_15 := by
  unfold step_main_v10_15 Cert.ReferenceIdeal.Step.step
  show id (res_main_while0b_v64 V0) = _
  rw [al_46 h]
  try rfl
theorem step_16 (h : Holds V0 s j) : step_main_v10_16 V0 = (step j s).main_v10_16 := by
  unfold step_main_v10_16 Cert.ReferenceIdeal.Step.step
  show id (res_main_while0b_v105 V0) = _
  rw [al_93 h]
  try rfl
theorem step_17 (h : Holds V0 s j) : step_main_v10_17 V0 = (step j s).main_v10_17 := by
  unfold step_main_v10_17 Cert.ReferenceIdeal.Step.step
  show id (res_main_while0b_v103 V0) = _
  rw [al_91 h]
  try rfl
theorem step_18 (h : Holds V0 s j) : step_main_v10_18 V0 = (step j s).main_v10_18 := by
  unfold step_main_v10_18 Cert.ReferenceIdeal.Step.step
  show id (res_main_while0b_v144 V0) = _
  rw [al_138 h]
  try rfl
theorem step_19 (h : Holds V0 s j) : step_main_v10_19 V0 = (step j s).main_v10_19 := by
  unfold step_main_v10_19 Cert.ReferenceIdeal.Step.step
  show id (res_main_while0b_v142 V0) = _
  rw [al_136 h]
  try rfl
theorem step_20 (h : Holds V0 s j) : step_main_v10_20 V0 = (step j s).main_v10_20 := by
  unfold step_main_v10_20 Cert.ReferenceIdeal.Step.step
  show id (Host.dynamicUpdateSlice (V0 (Proc.devRef .tc main_v10_20)) (broadcastInDim S1x128x512 ![1, 2] bcast_S128x512_S1x128x512_1_2 (res_main_while0b_v144 V0)) (fun k => (((![V0 (Proc.devRef .tc main_v10_13), constantI S_ 32 0#32, constantI S_ 32 0#32] : Fin 3 → (⟨S_, .i32⟩ : BufTy).Contents (Elt F))) k (Shape.Idx.first h_S_)).toInt) updateFits_S50x128x512_S1x128x512) = _
  exact al_142 h
theorem step_13 (h : Holds V0 s j) : step_main_v10_13 V0 = constantI S_ 32 (BitVec.ofNat 32 (j + 1)) := by
  unfold step_main_v10_13
  rw [h.n_13]
  funext i
  show BitVec.ofNat 32 j + 1#32 = BitVec.ofNat 32 (j + 1)
  simp only [BitVec.ofNat_add]

set_option maxRecDepth 8192 in
theorem out_main_v18_holds (h : Holds V0 s j) {x_main_arg14 : (⟨S1000x512, .f32⟩ : BufTy).Contents (Elt F)} (h_main_arg14 : V0 (Proc.devRef .tc main_arg14) = x_main_arg14) {x_main_arg15 : (⟨S1000, .f32⟩ : BufTy).Contents (Elt F)} (h_main_arg15 : V0 (Proc.devRef .tc main_arg15) = x_main_arg15) : out_main_v18 V0 = Cert.ReferenceIdeal.Step.R_main_v18 s x_main_arg14 x_main_arg15 := by
  unfold out_main_v18 Cert.ReferenceIdeal.Step.R_main_v18
  rw [h.f_20, h_main_arg14, h_main_arg15]
  try rfl

set_option maxRecDepth 8192 in
theorem out_main_v22_holds (h : Holds V0 s j) : out_main_v22 V0 = Cert.ReferenceIdeal.Step.R_main_v22 s := by
  unfold out_main_v22 Cert.ReferenceIdeal.Step.R_main_v22
  rw [h.f_14, h.f_16, h.f_18]
  try rfl

set_option maxRecDepth 8192 in
theorem out_main_v26_holds (h : Holds V0 s j) : out_main_v26 V0 = Cert.ReferenceIdeal.Step.R_main_v26 s := by
  unfold out_main_v26 Cert.ReferenceIdeal.Step.R_main_v26
  rw [h.f_15, h.f_17, h.f_19]
  try rfl

/-- One trip keeps the valuation holding: `step` of the state, the same set-up values, the next number. -/
theorem holds_step (h : Holds V0 s j) : Holds (STEP V0) (step j s) (j + 1) where
  f_14 := (STEP_main_v10_14 V0).trans (step_14 h)
  f_15 := (STEP_main_v10_15 V0).trans (step_15 h)
  f_16 := (STEP_main_v10_16 V0).trans (step_16 h)
  f_17 := (STEP_main_v10_17 V0).trans (step_17 h)
  f_18 := (STEP_main_v10_18 V0).trans (step_18 h)
  f_19 := (STEP_main_v10_19 V0).trans (step_19 h)
  f_20 := (STEP_main_v10_20 V0).trans (step_20 h)
  n_13 := (STEP_main_v10_13 V0).trans (step_13 h)
  f_0 := (STEP_main_v10_0 V0).trans h.f_0
  f_1 := (STEP_main_v10_1 V0).trans h.f_1
  f_2 := (STEP_main_v10_2 V0).trans h.f_2
  f_3 := (STEP_main_v10_3 V0).trans h.f_3
  f_4 := (STEP_main_v10_4 V0).trans h.f_4
  f_5 := (STEP_main_v10_5 V0).trans h.f_5
  f_6 := (STEP_main_v10_6 V0).trans h.f_6
  f_7 := (STEP_main_v10_7 V0).trans h.f_7
  f_8 := (STEP_main_v10_8 V0).trans h.f_8
  f_9 := (STEP_main_v10_9 V0).trans h.f_9
  f_10 := (STEP_main_v10_10 V0).trans h.f_10
  f_11 := (STEP_main_v10_11 V0).trans h.f_11
  f_12 := (STEP_main_v10_12 V0).trans h.f_12

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg6)) (m ((c.tc : Thread nD τ).loc main_arg8)) (m ((c.tc : Thread nD τ).loc main_arg7)) (m ((c.tc : Thread nD τ).loc main_arg9)) (m ((c.tc : Thread nD τ).loc main_arg10)) (m ((c.tc : Thread nD τ).loc main_arg12)) (m ((c.tc : Thread nD τ).loc main_arg11)) (m ((c.tc : Thread nD τ).loc main_arg13)) (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 50 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v18) = Cert.ReferenceIdeal.Step.R_main_v18 (it c 50) (m ((c.tc : Thread nD τ).loc main_arg14)) (m ((c.tc : Thread nD τ).loc main_arg15))
      ∧ r.2.mem ((c.tc : Thread nD τ).loc main_v22) = Cert.ReferenceIdeal.Step.R_main_v22 (it c 50)
      ∧ r.2.mem ((c.tc : Thread nD τ).loc main_v26) = Cert.ReferenceIdeal.Step.R_main_v26 (it c 50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have hk := holds_iter m c (it c) (h0 c) (hs c) 50
    ⟨(h c).1.trans (out_main_v18_holds hk (iter_main_arg14 m c 50) (iter_main_arg15 m c 50)), (h c).2.1.trans (out_main_v22_holds hk), (h c).2.2.1.trans (out_main_v26_holds hk), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2⟩) (Value.run m ρ)

end Cert.Proof.RefRun

end
-- ==== Proof.Same.lean ====
/-
  The kernel and its idealization are one program, printed twice: their launches, their bodies and their threads agree.
-/
module

public import proofs.«01_k».proof.KernelIdeal
public import proofs.«01_k».proof.Kernel
public import proofs.«01_k».proof.Proof.Gen.Kernel
public import proofs.«01_k».proof.Proof.Gen.KernelIdeal
public import Idealize.ShloMosaic.Lib.StableHlo.Run

@[expose] public section

namespace Cert.Proof.Whole

open Idealize.ShloMosaic
open Idealize.SL.Sem

variable {F : FTy → Type} [FloatOps F]

set_option maxHeartbeats 20000000

theorem defs₀_same : Cert.Kernel.defs₀ (F := F) = Cert.KernelIdeal.defs₀ (F := F) := by
  funext p ℓ a
  cases p with
  | tc => match ℓ, a with
    | 0, _ => rfl
    | 1, _ => rfl
  | scScalar c => match ℓ, a with
    | 0, _ => rfl
    | 1, _ => rfl
  | scVector c s => match ℓ, a with
    | 0, _ => rfl
    | 1, _ => rfl

theorem main_same (d) : Cert.Kernel.main (F := F) d = Cert.KernelIdeal.main (F := F) d := rfl

theorem threads_same : Cert.Kernel.threads (F := F) = Cert.KernelIdeal.threads (F := F) :=
  congrArg (Cert.KernelIdeal.sc (F := F)).threads (funext fun d => main_same d)

theorem defs_same : Cert.Kernel.defs (F := F) = Cert.KernelIdeal.defs (F := F) :=
  congrArg (fun D => (Cert.KernelIdeal.sc (F := F)).defs (Pipeline.defs Cert.KernelIdeal.pcfgs D)) defs₀_same

end Cert.Proof.Whole
-- ==== Proof.Frames.lean ====
/-
  The frames: each program runs, keeps its arguments and leaves every semaphore at zero.
-/
module

public import proofs.«01_k».proof.Proof.Vals
public import proofs.«01_k».proof.Proof.RefRun
public import proofs.«01_k».proof.Proof.Same
public import Idealize.ShloMosaic.Lib.Quiescent

@[expose] public section

noncomputable section

namespace Cert.Proof.Whole

open Idealize.ShloMosaic
open Idealize.ShloMosaic.TcCoe
open Idealize.SL.Sem

/-- The idealized kernel's row numbers are in range; -/
theorem range_KernelIdeal (m : (ℓ : Loc Cert.KernelIdeal.nD Cert.KernelIdeal.τ Cert.KernelIdeal.sig) → Buf (Elt Ideal) ℓ) (h : Cert.Pre_KernelIdeal m) :
    InRange (F := Ideal) (ixm m) := inRange_of m fun d j => word_lt _ (congrFun (h d) j)

/-- the kernel's too. -/
theorem range_Kernel (m : (ℓ : Loc Cert.Kernel.nD Cert.Kernel.τ Cert.Kernel.sig) → Buf (Elt Bits) ℓ) (h : Cert.Pre_Kernel m) :
    InRange (F := Bits) (ixm m) := inRange_of (F := Bits) m fun d j => word_lt _ (congrFun (h d) j)

section Keep

open Cert.KernelIdeal Cert.KernelIdeal.Gen

variable {F : FTy → Type} [FloatOps F] (m : (ℓ : Loc nD τ sig) → Buf (Elt F) ℓ)

/-- A run's end keeps the arguments. -/
theorem QC_args (r : PUnit × MemSt nD τ sig (Elt F)) (h : QC m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  have key (r' : Ref sig .tc) (hs : (Proc.devRef (τ := τ) .tc r').isScoped = false) (h1 : r' ∉ writes1) (h5 : r' ≠ main_v5) (h2 : r' ∉ writes2) (h3 : r' ∉ writes3)
      (ha : r' ≠ main_v29_0) (hb : r' ≠ main_v29_1) (hc : r' ≠ main_v29_2) : r.2.mem (c, Proc.devRef .tc r') = m (c, Proc.devRef .tc r') :=
    (h.1 c _ (mem_uc r' hs)).trans (V4_keep m c h1 h5 h2 h3 ha hb hc)
  ⟨key main_arg0 (by decide) (by decide) (by decide) (by decide) (by decide) (by decide) (by decide) (by decide),
    key main_arg1 (by decide) (by decide) (by decide) (by decide) (by decide) (by decide) (by decide) (by decide),
    key main_arg2 (by decide) (by decide) (by decide) (by decide) (by decide) (by decide) (by decide) (by decide),
    key main_arg3 (by decide) (by decide) (by decide) (by decide) (by decide) (by decide) (by decide) (by decide),
    key main_arg4 (by decide) (by decide) (by decide) (by decide) (by decide) (by decide) (by decide) (by decide),
    key main_arg5 (by decide) (by decide) (by decide) (by decide) (by decide) (by decide) (by decide) (by decide),
    key main_arg6 (by decide) (by decide) (by decide) (by decide) (by decide) (by decide) (by decide) (by decide),
    key main_arg7 (by decide) (by decide) (by decide) (by decide) (by decide) (by decide) (by decide) (by decide),
    key main_arg8 (by decide) (by decide) (by decide) (by decide) (by decide) (by decide) (by decide) (by decide),
    key main_arg9 (by decide) (by decide) (by decide) (by decide) (by decide) (by decide) (by decide) (by decide),
    key main_arg10 (by decide) (by decide) (by decide) (by decide) (by decide) (by decide) (by decide) (by decide),
    key main_arg11 (by decide) (by decide) (by decide) (by decide) (by decide) (by decide) (by decide) (by decide),
    key main_arg12 (by decide) (by decide) (by decide) (by decide) (by decide) (by decide) (by decide) (by decide),
    key main_arg13 (by decide) (by decide) (by decide) (by decide) (by decide) (by decide) (by decide) (by decide),
    key main_arg14 (by decide) (by decide) (by decide) (by decide) (by decide) (by decide) (by decide) (by decide),
    key main_arg15 (by decide) (by decide) (by decide) (by decide) (by decide) (by decide) (by decide) (by decide)⟩

end Keep

theorem frame_kernelIdeal : Cert.quiescent_KernelIdeal := fun m ρ hpre =>
  (θ_run Cert.KernelIdeal.defs _ _).mono (fun r h => ⟨fun c => QC_args m r h c, h.2⟩) (run_main (F := Ideal) m ρ (range_KernelIdeal m hpre))

/-- The kernel's run, its text being the idealized kernel's. -/
theorem run_kernel (m : (ℓ : Loc Cert.Kernel.nD Cert.Kernel.τ Cert.Kernel.sig) → Buf (Elt Bits) ℓ) (ρ : Dev Cert.Kernel.nD → PrngReg) (h : InRange (F := Bits) (ixm m)) :
    θ_run Cert.Kernel.defs Cert.Kernel.threads ⟨m, fun _ => 0, ρ⟩ (QC (F := Bits) m) := by
  have e := run_main (F := Bits) m ρ h
  rw [← threads_same, ← defs_same] at e
  exact e

theorem frame_kernel : Cert.quiescent_Kernel := fun m ρ hpre =>
  (θ_run Cert.Kernel.defs _ _).mono (fun r h => ⟨fun c => QC_args (F := Bits) m r h c, h.2⟩) (run_kernel m ρ (range_Kernel m hpre))

/-- The reference's states, one per time step. -/
def refIt (m : (ℓ : Loc Cert.ReferenceIdeal.nD Cert.ReferenceIdeal.τ Cert.ReferenceIdeal.sig) → Buf (Elt Ideal) ℓ) (c : Dev Cert.ReferenceIdeal.nD) : ℕ → Cert.ReferenceIdeal.Step.State Ideal
  | 0 => Cert.Proof.RefRun.initState m c
  | n + 1 => Cert.ReferenceIdeal.Step.step n (refIt m c n)

/-- The reference's run, its counters with it. -/
theorem frame_referenceIdeal : Cert.quiescent_ReferenceIdeal := by
  intro m ρ _
  refine (θ_run Cert.ReferenceIdeal.defs _ _).mono ?_ (Cert.Proof.RefRun.run_iter m ρ (refIt m) (fun _ => rfl) (fun _ _ => rfl))
  intro r h
  exact ⟨fun c => (h c).2.2.2, sem_eq_zero_of_no_sems (by decide) r.2⟩

end Cert.Proof.Whole

end
-- ==== Proof.Cell.lean ====
/-
  One step of one layer over the extended reals: the kernel's gates and states are the reference's.
-/
module

public import proofs.«01_k».proof.Proof.Wave
public import proofs.«01_k».proof.Proof.RefRun
public import Idealize.ShloMosaic.Lib.KernelVsHost
public import Idealize.ShloMosaic.Lib.IdealHost
public import Idealize.ShloMosaic.Lib.Pointwise

@[expose] public section

noncomputable section

namespace Cert.Proof.Whole

open Cert.KernelIdeal Cert.KernelIdeal.Gen

open Idealize.ShloMosaic
open Idealize.ShloMosaic.TcCoe
open Idealize.SL.Sem

/-! ## The reference's cell -/

/-- One at every entry. -/
def ones : FVec Ideal S128x512 .f32 :=
  broadcastInDim S128x512 ![] Cert.ReferenceIdeal.Gen.facts.bcast_S_S128x512 (constant S_ .f32 0x3F800000#32)

/-- The logistic function, as one over one plus an exponential. -/
def sig (x : FVec Ideal S128x512 .f32) : FVec Ideal S128x512 .f32 := Host.divf ones (addf ones (Host.exp (Host.negf x)))

/-- The four blocks of the gates. -/
def gI (g : FVec Ideal S128x2048 .f32) : FVec Ideal S128x512 .f32 := extractStridedSlice S128x512 ![0, 0] g slices_S128x2048_o0_0_S128x512
def gF (g : FVec Ideal S128x2048 .f32) : FVec Ideal S128x512 .f32 := extractStridedSlice S128x512 ![0, 512] g slices_S128x2048_o0_512_S128x512
def gG (g : FVec Ideal S128x2048 .f32) : FVec Ideal S128x512 .f32 := extractStridedSlice S128x512 ![0, 1024] g slices_S128x2048_o0_1024_S128x512
def gO (g : FVec Ideal S128x2048 .f32) : FVec Ideal S128x512 .f32 := extractStridedSlice S128x512 ![0, 1536] g slices_S128x2048_o0_1536_S128x512

/-- The new cell state from the gates and the old; -/
def cell (g : FVec Ideal S128x2048 .f32) (c : FVec Ideal S128x512 .f32) : FVec Ideal S128x512 .f32 :=
  addf (mulf (sig (gF g)) c) (mulf (sig (gI g)) (Host.tanh (gG g)))
/-- the new hidden state. -/
def hid (g : FVec Ideal S128x2048 .f32) (c : FVec Ideal S128x512 .f32) : FVec Ideal S128x512 .f32 :=
  mulf (sig (gO g)) (Host.tanh (cell g c))

/-- A bias along every row. -/
def row (b : FVec Ideal S2048 .f32) : FVec Ideal S128x2048 .f32 :=
  broadcastInDim S128x2048 ![0, 1] Cert.ReferenceIdeal.Gen.facts.bcast_S1x2048_S128x2048_0_1 (broadcastInDim S1x2048 ![1] Cert.ReferenceIdeal.Gen.facts.bcast_S2048_S1x2048_1 b)

/-- A weight matrix, turned. -/
def turn (W : FVec Ideal S2048x512 .f32) : FVec Ideal S512x2048 .f32 := transpose S512x2048 [1, 0] W transposes_S2048x512_S512x2048_1_0
/-- The product with a hidden state. -/
def dotH (h : FVec Ideal S128x512 .f32) (W : FVec Ideal S512x2048 .f32) : FVec Ideal S128x2048 .f32 :=
  Host.dotGeneral Cert.ReferenceIdeal.dot_S128x512_S512x2048_S128x2048_1_0_0_1_n_n none h W
/-- The product with an input. -/
def dotX (x : FVec Ideal S128x256 .f32) (W : FVec Ideal S256x2048 .f32) : FVec Ideal S128x2048 .f32 :=
  Host.dotGeneral Cert.ReferenceIdeal.dot_S128x256_S256x2048_S128x2048_1_0_0_1_n_n none x W

/-- The gates: the input's product, a bias, the hidden state's product, a bias. -/
def gates (u v : FVec Ideal S128x2048 .f32) (bi bh : FVec Ideal S2048 .f32) : FVec Ideal S128x2048 .f32 :=
  addf (addf (addf u (row bi)) v) (row bh)

/-! ## The kernel's cell is the reference's -/

theorem sig_eq (x : FVec Ideal S128x512 .f32) : logistic x = sig x := by
  funext i
  unfold sig ones
  pointwise
  rfl

/-- Both biases in one, along every row. -/
theorem bias_eq (bi bh : FVec Ideal S2048 .f32) (i : S128x2048.Idx) :
    broadcastTo S128x2048 (shapeCast S1x2048 (addf bi bh) shapeCasts_S2048_S1x2048) broadcasts_S1x2048_S128x2048 i = row bi i + row bh i := by
  unfold row
  pointwise

theorem gates_eq (u v : FVec Ideal S128x2048 .f32) (bi bh : FVec Ideal S2048 .f32) :
    addf (addf u v) (broadcastTo S128x2048 (shapeCast S1x2048 (addf bi bh) shapeCasts_S2048_S1x2048) broadcasts_S1x2048_S128x2048) = gates u v bi bh := by
  funext i
  show (u i + v i) + _ = ((u i + row bi i) + v i) + row bh i
  rw [bias_eq, ← add_assoc, add_right_comm (u i) (v i) (row bi i)]

theorem matmulH_eq (h : FVec Ideal S128x512 .bf16) (W : FVec Ideal S512x2048 .bf16) :
    matmul dot_S128x512_S512x2048_S128x2048_1_0_0_1_n_n none h W (constant S128x2048 .f32 0x00000000#32) = dotH h W := by
  refine (matmul_zero_eq_dotGeneral _ none h W).trans ?_
  funext j
  rfl

theorem matmulX_eq (x : FVec Ideal S128x256 .bf16) (W : FVec Ideal S256x2048 .bf16) :
    matmul dot_S128x256_S256x2048_S128x2048_1_0_0_1_n_n none x W (constant S128x2048 .f32 0x00000000#32) = dotX x W := by
  refine (matmul_zero_eq_dotGeneral _ none x W).trans ?_
  funext j
  rfl

theorem pay1_eq (c : FVec Ideal S128x512 .f32) (g : FVec Ideal S128x2048 .f32) : k1_pay1 c g (gI g) = cell g c := by
  unfold k1_pay1
  simp only [sig_eq]
  rfl

theorem pay2_eq (c : FVec Ideal S128x512 .f32) (g : FVec Ideal S128x2048 .f32) : k1_pay2 c g = cell g c := by
  unfold k1_pay2
  simp only [sig_eq]
  rfl

theorem pay5_eq (c : FVec Ideal S128x512 .f32) (g : FVec Ideal S128x2048 .f32) : k1_pay5 c g (gI g) = hid g c := by
  unfold k1_pay5
  simp only [sig_eq, shapeCast_self, pay1_eq]
  rfl

theorem pay6_eq (c : FVec Ideal S128x512 .f32) (g : FVec Ideal S128x2048 .f32) : k1_pay6 c g (gI g) = cell g c := by
  unfold k1_pay6
  simp only [shapeCast_self, pay1_eq]

theorem pay7_eq (c : FVec Ideal S128x512 .f32) (g : FVec Ideal S128x2048 .f32) : k1_pay7 c g = hid g c := by
  unfold k1_pay7
  simp only [sig_eq, shapeCast_self, pay2_eq]
  rfl

theorem pay8_eq (c : FVec Ideal S128x512 .f32) (g : FVec Ideal S128x2048 .f32) : k1_pay8 c g = cell g c := by
  unfold k1_pay8
  simp only [shapeCast_self, pay2_eq]

/-- A pair of biases as the kernel's one row. -/
def both (bi bh : FVec Ideal S2048 .f32) : FVec Ideal S1x2048 .f32 := shapeCast S1x2048 (addf bi bh) shapeCasts_S2048_S1x2048

theorem pay26_eq (h : FVec Ideal S128x512 .bf16) (u : FVec Ideal S128x2048 .f32) (W : FVec Ideal S512x2048 .bf16) (bi bh : FVec Ideal S2048 .f32) :
    k1_pay26 h u W (constant S128x2048 .f32 0x00000000#32) (both bi bh) = gates u (dotH h W) bi bh := by
  unfold k1_pay26 both
  simp only [shapeCast_self, matmulH_eq]
  exact gates_eq _ _ _ _

theorem pay24_eq (x : FVec Ideal S1x128x256 .bf16) (W : FVec Ideal S256x2048 .bf16) :
    k1_pay24 x W = dotX (shapeCast S128x256 (α := EReal) x shapeCasts_S1x128x256_S128x256) W := by
  unfold k1_pay24
  simp only [shapeCast_self]
  exact matmulX_eq _ _

theorem pay25_eq (W : FVec Ideal S512x2048 .bf16) : k1_pay25 W = W := by
  unfold k1_pay25
  simp only [shapeCast_self]

theorem pay29_eq (h : FVec Ideal S128x512 .bf16) (c : FVec Ideal S128x512 .f32) (u : FVec Ideal S128x2048 .f32) (W : FVec Ideal S512x2048 .bf16) (bi bh : FVec Ideal S2048 .f32) :
    k1_pay29 h c u W (constant S128x2048 .f32 0x00000000#32) (both bi bh) = cell (gates u (dotH h W) bi bh) c := by
  unfold k1_pay29
  simp only [sig_eq, pay26_eq]
  rfl

theorem pay30_eq (h : FVec Ideal S128x512 .bf16) (c : FVec Ideal S128x512 .f32) (u : FVec Ideal S128x2048 .f32) (W : FVec Ideal S512x2048 .bf16) (bi bh : FVec Ideal S2048 .f32) :
    k1_pay30 h c u W (constant S128x2048 .f32 0x00000000#32) (both bi bh) = hid (gates u (dotH h W) bi bh) c := by
  unfold k1_pay30
  simp only [sig_eq, pay26_eq, pay29_eq]
  rfl

theorem pay27_eq (x h : FVec Ideal S128x512 .bf16) (Wi Wh : FVec Ideal S512x2048 .bf16) (bi bh : FVec Ideal S2048 .f32) :
    k1_pay27 x h Wi Wh (both bi bh) = gates (dotH x Wi) (dotH h Wh) bi bh := by
  unfold k1_pay27 both
  simp only [shapeCast_self, matmulH_eq]
  exact gates_eq _ _ _ _

theorem pay28_eq (x h : FVec Ideal S128x512 .bf16) (Wi Wh : FVec Ideal S512x2048 .bf16) (bi bh : FVec Ideal S2048 .f32) :
    k1_pay28 x h Wi Wh (both bi bh) = gates (dotH x Wi) (dotH h Wh) bi bh := by
  unfold k1_pay28 both
  simp only [shapeCast_self, matmulH_eq]
  exact gates_eq _ _ _ _

/-! ## The three layers' new states -/

section Layers

variable (A : Wts Ideal) (E : WSt Ideal) (bi bh : FVec Ideal S2048 .f32)

theorem newC0_eq (x : Vec Ideal S1x128x256 .bf16) (hb : A.b0 = both bi bh) :
    newC0 A x E = cell (gates (dotX (shapeCast S128x256 (α := EReal) x shapeCasts_S1x128x256_S128x256) A.wi0) (dotH E.h0 A.wh0) bi bh) E.c0 := by
  unfold newC0 k1_pay4
  rw [hb, pay24_eq, pay25_eq, pay29_eq]
  exact shapeCast_self _ _

theorem newH0_eq (x : Vec Ideal S1x128x256 .bf16) (hb : A.b0 = both bi bh) :
    newH0 A x E = hid (gates (dotX (shapeCast S128x256 (α := EReal) x shapeCasts_S1x128x256_S128x256) A.wi0) (dotH E.h0 A.wh0) bi bh) E.c0 := by
  unfold newH0 k1_pay3
  rw [hb, pay24_eq, pay25_eq, pay30_eq]
  exact shapeCast_self _ _

theorem newC1_eq (hb : A.b1 = both bi bh) : newC1 A E = cell (gates (dotH E.h0 A.wi1) (dotH E.h1 A.wh1) bi bh) E.c1 := by
  unfold newC1 gates1
  rw [hb, pay27_eq, show k1_pay31 E.h0 E.h1 A.wi1 A.wh1 (both bi bh) = gI _ from rfl, pay27_eq]
  exact pay6_eq _ _

theorem newH1_eq (hb : A.b1 = both bi bh) : newH1 A E = hid (gates (dotH E.h0 A.wi1) (dotH E.h1 A.wh1) bi bh) E.c1 := by
  unfold newH1 gates1
  rw [hb, pay27_eq, show k1_pay31 E.h0 E.h1 A.wi1 A.wh1 (both bi bh) = gI _ from rfl, pay27_eq]
  exact pay5_eq _ _

theorem newC2_eq (hb : A.b2 = both bi bh) : newC2 A E = cell (gates (dotH E.h1 A.wi2) (dotH E.h2 A.wh2) bi bh) E.c2 := by
  unfold newC2 gates2
  rw [hb, pay28_eq]
  exact pay8_eq _ _

theorem newH2_eq (hb : A.b2 = both bi bh) : newH2 A E = hid (gates (dotH E.h1 A.wi2) (dotH E.h2 A.wh2) bi bh) E.c2 := by
  unfold newH2 gates2
  rw [hb, pay28_eq]
  exact pay7_eq _ _

end Layers

/-! ## The reference's step -/

section Step

open Cert.ReferenceIdeal.Step

variable (j : ℕ) (s : State Ideal)

/-- The first layer's gates; -/
def rg0 : FVec Ideal S128x2048 .f32 :=
  gates (dotX (b3 j s) (transpose S256x2048 [1, 0] s.main_v10_1 transposes_S2048x256_S256x2048_1_0)) (dotH s.main_v10_14 (turn s.main_v10_3)) s.main_v10_2 s.main_v10_4
/-- the second's; -/
def rg1 : FVec Ideal S128x2048 .f32 := gates (dotH (hid (rg0 j s) s.main_v10_15) (turn s.main_v10_5)) (dotH s.main_v10_16 (turn s.main_v10_7)) s.main_v10_6 s.main_v10_8
/-- the third's. -/
def rg2 : FVec Ideal S128x2048 .f32 := gates (dotH (hid (rg1 j s) s.main_v10_17) (turn s.main_v10_9)) (dotH s.main_v10_18 (turn s.main_v10_11)) s.main_v10_10 s.main_v10_12

theorem b14_eq : b14 j s = rg0 j s := rfl
theorem b46_eq : b46 j s = cell (rg0 j s) s.main_v10_15 := rfl
theorem b48_eq : b48 j s = hid (rg0 j s) s.main_v10_15 := rfl
theorem b59_eq : b59 j s = rg1 j s := by
  show _ = gates (dotH (hid (rg0 j s) s.main_v10_15) (turn s.main_v10_5)) _ _ _
  rw [← b48_eq]; rfl
theorem b91_eq : b91 j s = cell (rg1 j s) s.main_v10_17 := by rw [← b59_eq]; rfl
theorem b93_eq : b93 j s = hid (rg1 j s) s.main_v10_17 := by rw [← b59_eq]; rfl
theorem b104_eq : b104 j s = rg2 j s := by
  show _ = gates (dotH (hid (rg1 j s) s.main_v10_17) (turn s.main_v10_9)) _ _ _
  rw [← b93_eq]; rfl
theorem b136_eq : b136 j s = cell (rg2 j s) s.main_v10_19 := by rw [← b104_eq]; rfl
theorem b138_eq : b138 j s = hid (rg2 j s) s.main_v10_19 := by rw [← b104_eq]; rfl

end Step

end Cert.Proof.Whole

end
-- ==== Proof.Front.lean ====
/-
  The wavefront over the extended reals: before point `w`, layer `l` has made the reference's first `w - l` time steps.
-/
module

public import proofs.«01_k».proof.Proof.Cell

@[expose] public section

noncomputable section

namespace Cert.Proof.Whole

open Cert.KernelIdeal Cert.KernelIdeal.Gen

open Idealize.ShloMosaic
open Idealize.ShloMosaic.TcCoe
open Idealize.SL.Sem

open Cert.ReferenceIdeal.Step (State step b3)

/-- The kernel's weights are the reference's. -/
structure SameWts (A : Wts Ideal) (s : State Ideal) : Prop where
  wi0 : A.wi0 = (transpose S256x2048 [1, 0] s.main_v10_1 transposes_S2048x256_S256x2048_1_0 : FVec Ideal S256x2048 .f32)
  wh0 : A.wh0 = turn s.main_v10_3
  b0 : A.b0 = both s.main_v10_2 s.main_v10_4
  wi1 : A.wi1 = turn s.main_v10_5
  wh1 : A.wh1 = turn s.main_v10_7
  b1 : A.b1 = both s.main_v10_6 s.main_v10_8
  wi2 : A.wi2 = turn s.main_v10_9
  wh2 : A.wh2 = turn s.main_v10_11
  b2 : A.b2 = both s.main_v10_10 s.main_v10_12

/-- A step keeps the weights. -/
theorem SameWts.step {A : Wts Ideal} {s : State Ideal} (h : SameWts A s) (n : ℕ) : SameWts A (step n s) :=
  ⟨h.wi0, h.wh0, h.b0, h.wi1, h.wh1, h.b1, h.wi2, h.wh2, h.b2⟩

/-- Before any step all states are zero. -/
structure Zeros (s : State Ideal) : Prop where
  h0 : s.main_v10_14 = k1_pay17 (F := Ideal)
  c0 : s.main_v10_15 = k1_pay18 (F := Ideal)
  h1 : s.main_v10_16 = k1_pay19 (F := Ideal)
  c1 : s.main_v10_17 = k1_pay20 (F := Ideal)
  h2 : s.main_v10_18 = k1_pay21 (F := Ideal)
  c2 : s.main_v10_19 = k1_pay22 (F := Ideal)

/-- The reference's states, layer `l` delayed by `l`, none past the last step. -/
def front (R : ℕ → State Ideal) (w : ℕ) : WSt Ideal where
  h0 := (R (min w 50)).main_v10_14
  c0 := (R (min w 50)).main_v10_15
  h1 := (R (min (w - 1) 50)).main_v10_16
  c1 := (R (min (w - 1) 50)).main_v10_17
  h2 := (R (min (w - 2) 50)).main_v10_18
  c2 := (R (min (w - 2) 50)).main_v10_19

theorem WSt.ext' {S S' : WSt Ideal} (a : S.h0 = S'.h0) (b : S.c0 = S'.c0) (c : S.h1 = S'.h1) (d : S.c1 = S'.c1) (e : S.h2 = S'.h2) (f : S.c2 = S'.c2) : S = S' := by
  cases S; cases S'; simp_all

section Wavefront

variable {A : Wts Ideal} {X : ℕ → Vec Ideal S1x128x256 .bf16} {R : ℕ → State Ideal} {S : ℕ → WSt Ideal}
variable (hR : ∀ n, R (n + 1) = step n (R n)) (hA : ∀ n, SameWts A (R n)) (h0 : Zeros (R 0))
variable (hX : ∀ n, n < 50 → (shapeCast S128x256 (α := EReal) (X n) shapeCasts_S1x128x256_S128x256 : FVec Ideal S128x256 .f32) = b3 n (R n))

include hR hA hX in
theorem adv0 {E : WSt Ideal} {n : ℕ} (hn : n < 50) (eh : E.h0 = (R n).main_v10_14) (ec : E.c0 = (R n).main_v10_15) :
    newH0 A (X n) E = (R (n + 1)).main_v10_14 ∧ newC0 A (X n) E = (R (n + 1)).main_v10_15 := by
  have h := hA n
  rw [newH0_eq A E _ _ _ h.b0, newC0_eq A E _ _ _ h.b0, eh, ec, h.wi0, h.wh0, hX n hn, hR n]
  exact ⟨rfl, rfl⟩

include hR hA in
theorem adv1 {E : WSt Ideal} {n : ℕ} (ex : E.h0 = (R (n + 1)).main_v10_14) (eh : E.h1 = (R n).main_v10_16) (ec : E.c1 = (R n).main_v10_17) :
    newH1 A E = (R (n + 1)).main_v10_16 ∧ newC1 A E = (R (n + 1)).main_v10_17 := by
  have h := hA n
  rw [newH1_eq A E _ _ h.b1, newC1_eq A E _ _ h.b1, ex, eh, ec, h.wi1, h.wh1, hR n]
  exact ⟨(b93_eq n (R n)).symm, (b91_eq n (R n)).symm⟩

include hR hA in
theorem adv2 {E : WSt Ideal} {n : ℕ} (ex : E.h1 = (R (n + 1)).main_v10_16) (eh : E.h2 = (R n).main_v10_18) (ec : E.c2 = (R n).main_v10_19) :
    newH2 A E = (R (n + 1)).main_v10_18 ∧ newC2 A E = (R (n + 1)).main_v10_19 := by
  have h := hA n
  rw [newH2_eq A E _ _ h.b2, newC2_eq A E _ _ h.b2, ex, eh, ec, h.wi2, h.wh2, hR n]
  refine ⟨Eq.trans ?_ (b138_eq n (R n)).symm, Eq.trans ?_ (b136_eq n (R n)).symm⟩
  · exact congrArg (fun x => hid (gates (dotH x _) _ _ _) _) (b93_eq n (R n))
  · exact congrArg (fun x => cell (gates (dotH x _) _ _ _) _) (b93_eq n (R n))

include hR hA h0 hX in
/-- What each point finds. -/
theorem wave (hS : ∀ n, S (n + 1) = stepW A n (X n) (S n)) : ∀ w, entry w (S w) = front R w := by
  intro w
  induction w with
  | zero =>
    refine (if_pos rfl).trans ?_
    exact WSt.ext' h0.h0.symm h0.c0.symm h0.h1.symm h0.c1.symm h0.h2.symm h0.c2.symm
  | succ w ih =>
    refine (if_neg (Nat.succ_ne_zero w)).trans ?_
    rw [hS w]
    have k0 : (if w < 50 then newH0 A (X w) (front R w) else (front R w).h0) = (front R (w + 1)).h0
        ∧ (if w < 50 then newC0 A (X w) (front R w) else (front R w).c0) = (front R (w + 1)).c0 := by
      by_cases h : w < 50
      · have e1 : min w 50 = w := by omega
        have e2 : min (w + 1) 50 = w + 1 := by omega
        have := adv0 hR hA hX (E := front R w) h (by unfold front; rw [e1]) (by unfold front; rw [e1])
        rw [if_pos h, if_pos h, this.1, this.2]
        unfold front
        rw [e2]
        exact ⟨rfl, rfl⟩
      · rw [if_neg h, if_neg h]
        unfold front
        rw [show min w 50 = min (w + 1) 50 by omega]
        exact ⟨rfl, rfl⟩
    have k1 : (if 1 ≤ w ∧ w ≤ 50 then newH1 A (front R w) else (front R w).h1) = (front R (w + 1)).h1
        ∧ (if 1 ≤ w ∧ w ≤ 50 then newC1 A (front R w) else (front R w).c1) = (front R (w + 1)).c1 := by
      by_cases h : 1 ≤ w ∧ w ≤ 50
      · obtain ⟨n, rfl⟩ : ∃ n, w = n + 1 := ⟨w - 1, by omega⟩
        have e1 : min (n + 1) 50 = n + 1 := by omega
        have e2 : min (n + 1 - 1) 50 = n := by omega
        have e3 : min (n + 1 + 1 - 1) 50 = n + 1 := by omega
        have := adv1 hR hA (E := front R (n + 1)) (n := n) (by unfold front; rw [e1]) (by unfold front; rw [e2]) (by unfold front; rw [e2])
        rw [if_pos h, if_pos h, this.1, this.2]
        unfold front
        rw [e3]
        exact ⟨rfl, rfl⟩
      · rw [if_neg h, if_neg h]
        unfold front
        rw [show min (w - 1) 50 = min (w + 1 - 1) 50 by omega]
        exact ⟨rfl, rfl⟩
    have k2 : (if 2 ≤ w ∧ w ≤ 51 then newH2 A (front R w) else (front R w).h2) = (front R (w + 1)).h2
        ∧ (if 2 ≤ w ∧ w ≤ 51 then newC2 A (front R w) else (front R w).c2) = (front R (w + 1)).c2 := by
      by_cases h : 2 ≤ w ∧ w ≤ 51
      · obtain ⟨n, rfl⟩ : ∃ n, w = n + 2 := ⟨w - 2, by omega⟩
        have e1 : min (n + 2 - 1) 50 = n + 1 := by omega
        have e2 : min (n + 2 - 2) 50 = n := by omega
        have e3 : min (n + 2 + 1 - 2) 50 = n + 1 := by omega
        have := adv2 hR hA (E := front R (n + 2)) (n := n) (by unfold front; rw [e1]) (by unfold front; rw [e2]) (by unfold front; rw [e2])
        rw [if_pos h, if_pos h, this.1, this.2]
        unfold front
        rw [e3]
        exact ⟨rfl, rfl⟩
      · rw [if_neg h, if_neg h]
        unfold front
        rw [show min (w - 2) 50 = min (w + 1 - 2) 50 by omega]
        exact ⟨rfl, rfl⟩
    unfold stepW
    rw [ih]
    exact WSt.ext' k0.1 k0.2 k1.1 k1.2 k2.1 k2.2

end Wavefront

end Cert.Proof.Whole

end
-- ==== Proof.Results.lean ====
/-
  The results over the extended reals: the reference's reads, and the kernel's results as the reference's.
-/
module

public import proofs.«01_k».proof.Proof.Front
public import proofs.«01_k».proof.Proof.Out

@[expose] public section

noncomputable section

namespace Cert.Proof.Whole

open Cert.KernelIdeal Cert.KernelIdeal.Gen

open Idealize.ShloMosaic
open Idealize.ShloMosaic.TcCoe
open Idealize.SL.Sem

open Cert.ReferenceIdeal (S50x128x512 S6400x512 S6400x1000)
open Cert.ReferenceIdeal.Step (State step b3 b138 b142)

/-! ## The loop's number as a start -/

/-- A trip's number and two zeros. -/
def starts (j : ℕ) : Fin 3 → ℤ := fun k => (((![(constantI S_ 32 (BitVec.ofNat 32 j) : IVec S_ 32), constantI S_ 32 0#32, constantI S_ 32 0#32] : Fin 3 → IVec S_ 32)) k (Shape.Idx.first Cert.ReferenceIdeal.Gen.facts.h_S_)).toInt

theorem starts_0 {j : ℕ} (h : j < 50) : starts j 0 = j := by
  have e : ∀ n : Fin 50, (BitVec.ofNat 32 n.val).toInt = n.val := by decide
  exact e ⟨j, h⟩
theorem starts_1 (j : ℕ) : starts j 1 = 0 := rfl
theorem starts_2 (j : ℕ) : starts j 2 = 0 := rfl

/-! ## The hidden states kept for the head -/

/-- The entry of a row and a column. -/
def at2 (i : S50x128x512.Idx) : S128x512.Idx := fun a => match a with | 0 => i 1 | 1 => i 2

theorem clamp_at {j : ℕ} (hj : j < 50) (st : Fin 3 → ℤ) (h0 : st 0 = j) (h1 : st 1 = 0) (h2 : st 2 = 0) (a : Fin 3) :
    Host.clampedStart S50x128x512 S1x128x512 rfl st a = (![j, 0, 0] : Fin 3 → ℕ) a := by
  match a with
  | 0 => exact Host.clampedStart_of_le (s := S50x128x512) (t := S1x128x512) rfl st 0 j h0 (by show j + 1 ≤ 50; omega)
  | 1 => exact Host.clampedStart_of_le (s := S50x128x512) (t := S1x128x512) rfl st 1 0 h1 (by decide)
  | 2 => exact Host.clampedStart_of_le (s := S50x128x512) (t := S1x128x512) rfl st 2 0 h2 (by decide)

/-- A block of one time written into the kept array. -/
theorem upd_apply {j : ℕ} (hj : j < 50) (st : Fin 3 → ℤ) (h0 : st 0 = j) (h1 : st 1 = 0) (h2 : st 2 = 0) (x : FVec Ideal S50x128x512 .f32) (u : FVec Ideal S1x128x512 .f32)
    (h : S50x128x512.Slices (fun _ => 0) S1x128x512) (i : S50x128x512.Idx) :
    Host.dynamicUpdateSlice x u st h i = if (i 0).val = j then u (ix3 (0 : Fin 1) (i 1) (i 2)) else x i := by
  have hc : ∀ a : Fin 3, Host.clampedStart S50x128x512 S1x128x512 h.1 st a = (![j, 0, 0] : Fin 3 → ℕ) a := clamp_at hj st h0 h1 h2
  rw [Host.dynamicUpdateSlice_apply]
  have c0 : Host.clampedStart S50x128x512 S1x128x512 h.1 st (0 : Fin 3) = j := hc 0
  have c1 : Host.clampedStart S50x128x512 S1x128x512 h.1 st (1 : Fin 3) = 0 := hc 1
  have c2 : Host.clampedStart S50x128x512 S1x128x512 h.1 st (2 : Fin 3) = 0 := hc 2
  have i1 : (i 1).val < 128 := (i 1).isLt
  have i2 : (i 2).val < 512 := (i 2).isLt
  by_cases e : (i 0).val = j
  · rw [if_pos e, dif_pos]
    · refine congrArg u ?_
      funext a
      refine Fin.ext ?_
      match a with
      | 0 => exact (congrArg (fun z => (i 0).val - z) c0).trans (by rw [e]; exact Nat.sub_self _)
      | 1 => exact (congrArg (fun z => (i 1).val - z) c1).trans (Nat.sub_zero _)
      | 2 => exact (congrArg (fun z => (i 2).val - z) c2).trans (Nat.sub_zero _)
    · intro a
      match a with
      | 0 => exact ⟨c0.trans_le e.ge, e.trans_lt (c0.symm.trans_lt (Nat.lt_succ_self _))⟩
      | 1 => exact ⟨c1.trans_le (Nat.zero_le _), i1.trans_le (Nat.le_add_left _ _)⟩
      | 2 => exact ⟨c2.trans_le (Nat.zero_le _), i2.trans_le (Nat.le_add_left _ _)⟩
  · rw [if_neg e, dif_neg]
    intro hh
    have a1 : j ≤ (i 0).val := c0.symm.trans_le (hh (0 : Fin 3)).1
    have a2 : (i 0).val < j + 1 := (hh (0 : Fin 3)).2.trans_le (Nat.add_le_add_right c0.le 1)
    omega

theorem b142_apply {j : ℕ} (hj : j < 50) (s : State Ideal) (i : S50x128x512.Idx) :
    b142 j s i = if (i 0).val = j then b138 j s (at2 i) else s.main_v10_20 i := by
  unfold b142
  refine (upd_apply hj (starts j) (starts_0 hj) (starts_1 j) (starts_2 j) _ _ _ i).trans ?_
  unfold Cert.ReferenceIdeal.Step.b139
  generalize b138 j s = y
  have e : broadcastInDim S1x128x512 ![1, 2] Cert.ReferenceIdeal.Gen.facts.bcast_S128x512_S1x128x512_1_2 y (ix3 (0 : Fin 1) (i 1) (i 2)) = y (at2 i) := by
    refine (broadcastInDim_apply (s := S128x512) (t := S1x128x512) ![1, 2] _ y _ (at2 i) ?_)
    intro a
    match a with
    | 0 => rfl
    | 1 => rfl
  exact congrArg (fun z => if (i 0).val = j then z else s.main_v10_20 i) e

section Kept

variable {R : ℕ → State Ideal} (hR : ∀ n, R (n + 1) = step n (R n))

include hR in
/-- After `n` steps the kept array holds, at each time before `n`, the third layer's hidden state after that time. -/
theorem kept : ∀ n, n ≤ 50 → ∀ i : S50x128x512.Idx, (i 0).val < n → (R n).main_v10_20 i = (R ((i 0).val + 1)).main_v10_18 (at2 i) := by
  intro n
  induction n with
  | zero => intro _ i h; exact absurd h (Nat.not_lt_zero _)
  | succ n ih =>
    intro hn i hi
    have e : (R (n + 1)).main_v10_20 i = _ := (congrFun (congrArg State.main_v10_20 (hR n)) i).trans (b142_apply (by omega) (R n) i)
    rw [e]
    by_cases h : (i 0).val = n
    · rw [if_pos h, h]
      exact (congrFun (congrArg State.main_v10_18 (hR n)) (at2 i)).symm
    · rw [if_neg h]
      exact ih (by omega) i (by omega)

end Kept

/-! ## The stacks of last states -/

theorem stack_eq (a b c : FVec Ideal S128x512 .f32) :
    stack3 a b c = concatenate S3x128x512 0 [⟨S1x128x512, broadcastInDim S1x128x512 ![1, 2] Cert.ReferenceIdeal.Gen.facts.bcast_S128x512_S1x128x512_1_2 a⟩,
      ⟨S1x128x512, broadcastInDim S1x128x512 ![1, 2] Cert.ReferenceIdeal.Gen.facts.bcast_S128x512_S1x128x512_1_2 b⟩,
      ⟨S1x128x512, broadcastInDim S1x128x512 ![1, 2] Cert.ReferenceIdeal.Gen.facts.bcast_S128x512_S1x128x512_1_2 c⟩]
      Cert.ReferenceIdeal.Gen.facts.concatenates_S1x128x512_S1x128x512_S1x128x512_S3x128x512_d0 := by
  funext i
  have hi : i 0 = (0 : Fin 3) ∨ i 0 = (1 : Fin 3) ∨ i 0 = (2 : Fin 3) := by
    have h : ∀ n : Fin 3, n = 0 ∨ n = 1 ∨ n = 2 := by decide
    exact h (i 0)
  pointwise
  unfold stack3 stackAlong0
  have e : (fun a : Fin 2 => i a.succ) = ix2 (i 1) (i 2) := by funext a; match a with | 0 => rfl | 1 => rfl
  rcases hi with h | h | h
  · rw [dif_pos (by rw [h]; decide)]
    show pick3 a b c (i 0) (fun a : Fin 2 => i a.succ) = _
    rw [h, e]; rfl
  · rw [dif_neg (by rw [h]; decide), dif_pos (by rw [h]; decide)]
    show pick3 a b c (i 0) (fun a : Fin 2 => i a.succ) = _
    rw [h, e]; rfl
  · rw [dif_neg (by rw [h]; decide), dif_neg (by rw [h]; decide)]
    show pick3 a b c (i 0) (fun a : Fin 2 => i a.succ) = _
    rw [h, e]; rfl

/-! ## The head -/

theorem proj_apply (h : FVec Ideal S128x512 .bf16) (W : FVec Ideal S1000x512 .f32) (b : FVec Ideal S1000 .f32) (r : Fin 128) (v : Fin 1000) :
    k1_pay23 (F := Ideal) h (transpose S512x1000 [1, 0] W transposes_S1000x512_S512x1000_1_0 : FVec Ideal S512x1000 .f32) (shapeCast S1x1000 b shapeCasts_S1000_S1x1000) (ix3 (0 : Fin 1) r v)
      = (∑ k : Fin 512, h (ix2 r k) * W (ix2 v k)) + b (ix1 v) := by
  unfold k1_pay23
  pointwise

theorem head_apply (Y : FVec Ideal S50x128x512 .f32) (W : FVec Ideal S1000x512 .f32) (b : FVec Ideal S1000 .f32) (s : State Ideal) (hs : s.main_v10_20 = Y)
    (r : Fin 128) (t : Fin 50) (v : Fin 1000) :
    Cert.ReferenceIdeal.Step.R_main_v18 s W b (ix3 r t v) = (∑ k : Fin 512, Y (ix3 t r k) * W (ix2 v k)) + b (ix1 v) := by
  unfold Cert.ReferenceIdeal.Step.R_main_v18
  rw [hs]
  pointwise

end Cert.Proof.Whole

end
-- ==== Proof.Embed.lean ====
/-
  The embedded words over the extended reals: the block that a point of the pipeline reads is the reference's slice.
-/
module

public import proofs.«01_k».proof.Proof.Results
public import proofs.«01_k».proof.Proof.Frames
public import Idealize.ShloMosaic.Lib.WordCmp

@[expose] public section

noncomputable section

namespace Cert.Proof.Whole

open Cert.KernelIdeal Cert.KernelIdeal.Gen

open Idealize.ShloMosaic
open Idealize.ShloMosaic.TcCoe
open Idealize.SL.Sem

open Cert.ReferenceIdeal (S128x50x1 S128x50x256 gather_S1000x256_S128x50x1_S128x50x256_2_0_n_n_0_2_1256)
open Cert.ReferenceIdeal.Step (State b2 b3 A_main_v1 A_main_v3 A_main_v4 A_main_v5 A_main_v6 A_main_v7)

/-! ## The reference's rows -/

/-- The reference's gather of rows. -/
abbrev rowsOf := gather_S1000x256_S128x50x1_S128x50x256_2_0_n_n_0_2_1256

/-- A gather of whole rows, at an index: the row of that number, held inside the table. -/
theorem rows_apply (x : FVec Ideal S1000x256 .f32) (idx : IVec S128x50x1 32) (j : S128x50x256.Idx) :
    Host.gather rowsOf x idx j
      = x (ix2 ⟨min (idx (ix3 (j 0) (j 1) (0 : Fin 1))).toInt.toNat 999, by omega⟩ (j 2)) := by
  refine congrArg x (funext fun a => Fin.ext ?_)
  have hb : ∀ a, a ∉ rowsOf.operandBatchingDims := fun _ => List.not_mem_nil
  show rowsOf.start j idx a + rowsOf.batchCoord j a + rowsOf.offCoord j a = _
  rw [GatherDims.batchCoord_eq_zero _ _ _ (hb a), Nat.add_zero]
  match a with
  | 0 =>
    have ho : rowsOf.offCoord j 0 = 0 :=
      GatherDims.offCoord_eq_zero _ _ _ (fun h => ((GatherDims.mem_sKept _ _).mp h).1 (List.mem_singleton.mpr rfl))
    have hm : (0 : Fin Cert.ReferenceIdeal.S1000x256.rank) ∈ rowsOf.startIndexMap := List.mem_singleton.mpr rfl
    have hk : rowsOf.siIdx j ⟨List.idxOf 0 rowsOf.startIndexMap, List.idxOf_lt_length_iff.2 hm⟩ = ix3 (j 0) (j 1) (0 : Fin 1) := by
      funext b
      match b with
      | 0 => rfl
      | 1 => rfl
      | 2 => rfl
    have hs : rowsOf.start j idx 0 = min (idx (ix3 (j 0) (j 1) (0 : Fin 1))).toInt.toNat 999 :=
      (dif_pos hm).trans (congrArg (fun k => min (BitVec.toInt (idx k)).toNat 999) hk)
    exact (congrArg₂ (· + ·) hs ho).trans (Nat.add_zero _)
  | 1 =>
    have hs : rowsOf.start j idx 1 = 0 := dif_neg (by decide)
    exact (congrArg (· + rowsOf.offCoord j 1) hs).trans (Nat.zero_add _)

/-- The words below 1000, read signed or not. -/
theorem word_row (v : BitVec 32) (h : v.toNat < 1000) :
    min (if BitVec.ofBool (v.slt 0#32) = 1#1 then v + 1000#32 else v).toInt.toNat 999 = v.toNat % 1000 := by
  have e : v.toInt = v.toNat := by rw [BitVec.toInt_eq_toNat_cond]; rw [if_pos (by omega)]
  have hs : v.slt 0#32 = false := by
    rw [BitVec.slt_eq_decide, e]
    simp
  rw [hs, if_neg (by decide), e]
  omega

/-- The reference's embedded words. -/
theorem ref_x (w : IVec S128x50 32) (x : FVec Ideal S1000x256 .f32) (hw : ∀ i, (w i).toNat < 1000) (i : Cert.ReferenceIdeal.S50x128x256.Idx) :
    A_main_v7 (F := Ideal) w x i = x (ix2 ⟨(w (ix2 (i 1) (i 0))).toNat % 1000, Nat.mod_lt _ (by decide)⟩ (i 2)) := by
  have hv : ∀ p q, (A_main_v5 (F := Ideal) w x (ix3 p q (0 : Fin 1)) : BitVec 32)
      = if BitVec.ofBool ((w (ix2 p q)).slt 0#32) = 1#1 then w (ix2 p q) + 1000#32 else w (ix2 p q) := by
    intro p q
    unfold A_main_v5 A_main_v4
    pointwise
    unfold A_main_v1 A_main_v3
    rfl
  unfold A_main_v7
  pointwise
  unfold A_main_v6
  rw [rows_apply]
  refine congrArg x ?_
  refine congrArg₂ ix2 (Fin.ext ?_) rfl
  exact (congrArg (fun v : BitVec 32 => min v.toInt.toNat 999) (hv (i 1) (i 0))).trans (word_row _ (hw _))

/-- A slice of one time out of the fifty. -/
theorem slice_apply {n : ℕ} (hn : n < 50) (st : Fin 3 → ℤ) (h0 : st 0 = n) (h1 : st 1 = 0) (h2 : st 2 = 0) (x : FVec Ideal S50x128x256 .f32)
    (h : S50x128x256.Slices (fun _ => 0) S1x128x256) (b : Fin 128) (e : Fin 256) :
    Host.dynamicSlice S1x128x256 x st h (ix3 (0 : Fin 1) b e) = x (ix3 (⟨n, hn⟩ : Fin 50) b e) := by
  have hf : S50x128x256.Slices ![n, 0, 0] S1x128x256 := ⟨rfl, fun a => by
    match a with
    | 0 => show n + 1 ≤ 50; omega
    | 1 => exact Nat.le_of_eq (Nat.zero_add _)
    | 2 => exact Nat.le_of_eq (Nat.zero_add _)⟩
  rw [WordCmp.dynamicSlice_eq_extract S1x128x256 x st h ![n, 0, 0] hf (fun a => by
    match a with
    | 0 => exact h0
    | 1 => exact h1
    | 2 => exact h2)]
  refine congrArg x (funext fun a => Fin.ext ?_)
  match a with
  | 0 => exact Nat.add_zero _
  | 1 => exact Nat.zero_add _
  | 2 => exact Nat.zero_add _

/-- The reference's words do not change from step to step. -/
theorem words_kept {R : ℕ → State Ideal} (hR : ∀ n, R (n + 1) = Cert.ReferenceIdeal.Step.step n (R n)) (n : ℕ) : (R n).main_v10_0 = (R 0).main_v10_0 := by
  induction n with
  | zero => rfl
  | succ n ih => rw [hR n]; exact ih

/-- The kernel's words at a point. -/
theorem ker_x (m : (ρ : Loc nD τ Cert.KernelIdeal.sig) → Buf (Elt Ideal) ρ) (d : Dev nD) (n : ℕ) (hn : n < 50) (b : Fin 128) (e : Fin 256) :
    (shapeCast S128x256 (α := EReal) (xAt (bufsOf (V2 m)) d n) shapeCasts_S1x128x256_S128x256 : FVec Ideal S128x256 .f32) (ix2 b e)
      = (m (d, Proc.devRef .tc main_arg1) : FVec Ideal S1000x256 .f32)
          (ix2 ⟨((m (d, Proc.devRef .tc main_arg0) : IVec S128x50 32) (ix2 b (⟨n, hn⟩ : Fin 50))).toNat % 1000, Nat.mod_lt _ (by decide)⟩ e) := by
  have hc : ∀ X : FVec Ideal S1x128x256 .f32, shapeCast S128x256 X shapeCasts_S1x128x256_S128x256 (ix2 b e) = X (ix3 (0 : Fin 1) b e) := by
    intro X; pointwise
  refine (hc _).trans ?_
  have hk := congrFun (V2_v7 m d) (ix3 (⟨n, hn⟩ : Fin 50) b e)
  refine Eq.trans (b := (V2 m d (Proc.devRef .tc main_v7) : FVec Ideal S50x128x256 .bf16) (ix3 (⟨n, hn⟩ : Fin 50) b e)) ?_ (hk.trans ?_)
  · refine congrArg (V2 m d (Proc.devRef .tc main_v7) : FVec Ideal S50x128x256 .bf16) (funext fun a => ?_)
    match a with
    | 0 => exact Fin.ext (by show min n 49 = n; omega)
    | 1 => rfl
    | 2 => rfl
  · have hw := congrFun (V1_v1 m d) (ix1 (⟨n * 128 + b.val, by omega⟩ : Fin 6400))
    pointwise
    have ht := congrFun (V1_v4 m d) (srcIdx (ixm m d) (ix3 (⟨n * 128 + b.val, by omega⟩ : Fin 6400) (⟨e.val / 128, by omega⟩ : Fin 2) (⟨e.val % 128, by omega⟩ : Fin 128)))
    refine ht.trans ?_
    have hi : srcIdx (ixm m d) (ix3 (⟨n * 128 + b.val, by omega⟩ : Fin 6400) (⟨e.val / 128, by omega⟩ : Fin 2) (⟨e.val % 128, by omega⟩ : Fin 128))
        = ix3 (⟨((m (d, Proc.devRef .tc main_arg0) : IVec S128x50 32) (ix2 b (⟨n, hn⟩ : Fin 50))).toNat % 1000, Nat.mod_lt _ (by decide)⟩ : Fin 1000) (⟨e.val / 128, by omega⟩ : Fin 2) (⟨e.val % 128, by omega⟩ : Fin 128) := by
      funext a
      match a with
      | 0 =>
        refine Fin.ext (congrArg (fun v : BitVec 32 => v.toNat % 1000) ?_)
        refine Eq.trans ?_ (hw.trans ?_)
        · refine congrArg (ixm m d) (funext fun a => ?_)
          match a with
          | 0 => rfl
        · pointwise
          refine congrArg (fun k : Fin 50 => (m (d, Proc.devRef .tc main_arg0) : IVec S128x50 32) (ix2 b k)) (Fin.ext ?_)
          show (n * 128 + b.val) / 128 = n
          omega
      | 1 => rfl
      | 2 => rfl
    rw [hi]
    pointwise

/-- A point reads what the reference's step slices. -/
theorem same_x (m : (ρ : Loc nD τ Cert.KernelIdeal.sig) → Buf (Elt Ideal) ρ) (d : Dev nD) (w : IVec S128x50 32) (x : FVec Ideal S1000x256 .f32)
    (ew : m (d, Proc.devRef .tc main_arg0) = w) (ex : m (d, Proc.devRef .tc main_arg1) = x) (hw : ∀ i, (w i).toNat < 1000)
    {R : ℕ → State Ideal} (hR : ∀ n, R (n + 1) = Cert.ReferenceIdeal.Step.step n (R n)) (h0 : (R 0).main_v10_0 = A_main_v7 (F := Ideal) w x) (n : ℕ) (hn : n < 50) :
    (shapeCast S128x256 (α := EReal) (xAt (bufsOf (V2 m)) d n) shapeCasts_S1x128x256_S128x256 : FVec Ideal S128x256 .f32) = b3 n (R n) := by
  funext i
  have hi : i = ix2 (i 0) (i 1) := funext fun a => match a with | 0 => rfl | 1 => rfl
  rw [hi]
  refine (ker_x m d n hn (i 0) (i 1)).trans ?_
  have hb : b3 n (R n) (ix2 (i 0) (i 1)) = b2 n (R n) (ix3 (0 : Fin 1) (i 0) (i 1)) := by
    unfold b3; pointwise
  have hs : b2 n (R n) (ix3 (0 : Fin 1) (i 0) (i 1)) = (R n).main_v10_0 (ix3 (⟨n, hn⟩ : Fin 50) (i 0) (i 1)) :=
    slice_apply hn (starts n) (starts_0 hn) (starts_1 n) (starts_2 n) _ _ _ _
  refine Eq.trans ?_ (hb.trans (hs.trans ((congrFun ((words_kept hR n).trans h0) _).trans (ref_x w x hw _)))).symm
  rw [ew, ex]
  rfl

end Cert.Proof.Whole

end
-- ==== Proof.Math.lean ====
/-
  The value: over the extended reals the kernel's three results are the reference's.
-/
module

public import proofs.«01_k».proof.Proof.Embed

@[expose] public section

noncomputable section

namespace Cert.Proof.Whole

open Cert.KernelIdeal Cert.KernelIdeal.Gen

open Idealize.ShloMosaic
open Idealize.ShloMosaic.TcCoe
open Idealize.SL.Sem

open Cert.ReferenceIdeal.Step (State R_main_v18 R_main_v22 R_main_v26 A_main_v7 K_main_v8)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same arguments. -/
abbrev SameArgs (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

/-- The reference begins with the kernel's weights, -/
theorem wts_init (c : Dev Cert.KernelIdeal.nD) (h : SameArgs m m' c) : SameWts (wts (bufsOf (V2 m)) c) (refIt m' c 0) := by
  obtain ⟨-, -, e2, e3, e4, e5, e6, e7, e8, e9, e10, e11, e12, e13, -, -⟩ := h
  exact {
    wi0 := (V2_v9 m c).trans (congrArg (fun W : FVec Ideal S2048x256 .f32 => transpose S256x2048 [1, 0] W transposes_S2048x256_S256x2048_1_0) e2.symm)
    wh0 := (V2_v11 m c).trans (congrArg turn e3.symm)
    b0 := (V2_v21 m c).trans (congrArg₂ both e4.symm e5.symm)
    wi1 := (V2_v13 m c).trans (congrArg turn e6.symm)
    wh1 := (V2_v15 m c).trans (congrArg turn e7.symm)
    b1 := (V2_v23 m c).trans (congrArg₂ both e8.symm e9.symm)
    wi2 := (V2_v17 m c).trans (congrArg turn e10.symm)
    wh2 := (V2_v19 m c).trans (congrArg turn e11.symm)
    b2 := (V2_v25 m c).trans (congrArg₂ both e12.symm e13.symm) }

/-- and keeps them. -/
theorem wts_same (c : Dev Cert.KernelIdeal.nD) (h : SameArgs m m' c) (n : ℕ) : SameWts (wts (bufsOf (V2 m)) c) (refIt m' c n) := by
  induction n with
  | zero => exact wts_init m m' c h
  | succ n ih => exact ih.step n

/-- Its zeros are those the kernel clears its hidden states to -/
theorem zero_h : K_main_v8 (F := Ideal) = k1_pay17 (F := Ideal) := by
  funext i
  unfold K_main_v8 k1_pay17
  pointwise
  unfold Cert.ReferenceIdeal.Step.K_main_cst k1_pay16
  pointwise

/-- and its cell states to; -/
theorem zero_c : K_main_v8 (F := Ideal) = k1_pay18 (F := Ideal) := by
  funext i
  unfold K_main_v8 k1_pay18
  pointwise
  unfold Cert.ReferenceIdeal.Step.K_main_cst k1_pay15
  pointwise

/-- so it begins at the kernel's zeros. -/
theorem zeros_init (c : Dev Cert.KernelIdeal.nD) : Zeros (refIt m' c 0) where
  h0 := zero_h
  c0 := zero_c
  h1 := zero_h
  c1 := zero_c
  h2 := zero_h
  c2 := zero_c

variable (hpre : Cert.Pre_KernelIdeal m) (c : Dev Cert.KernelIdeal.nD) (h : SameArgs m m' c)
include hpre h

/-- Before every point the kernel holds the reference's states, each layer delayed by its number. -/
theorem wave_at (w : ℕ) : entry w (st (bufsOf (V2 m)) c w) = front (refIt m' c) w :=
  wave (fun _ => rfl) (wts_same m m' c h) (zeros_init m' c)
    (fun n hn => same_x m c _ _ rfl rfl (fun j => word_lt _ (congrFun (hpre c) j)) (fun _ => rfl) (congrArg₂ (A_main_v7 (F := Ideal)) h.1 h.2.1) n hn)
    (fun _ => rfl) w

/-- The last hidden states. -/
theorem hidden_eq : V4 m c (Proc.devRef .tc main_v29_1) = R_main_v22 (refIt m' c 50) := by
  refine (V4_v29_1 m c).trans ?_
  unfold hnW
  rw [wave_at m m' hpre c h 52]
  exact stack_eq _ _ _

/-- The last cell states. -/
theorem cells_eq : V4 m c (Proc.devRef .tc main_v29_2) = R_main_v26 (refIt m' c 50) := by
  refine (V4_v29_2 m c).trans ?_
  unfold cnW
  rw [wave_at m m' hpre c h 52]
  exact stack_eq _ _ _

/-- The projections of every step's hidden state. -/
theorem heads_eq : V4 m c (Proc.devRef .tc main_v30)
    = R_main_v18 (refIt m' c 50) (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15)) := by
  have e14 := h.2.2.2.2.2.2.2.2.2.2.2.2.2.2.1
  have e15 := h.2.2.2.2.2.2.2.2.2.2.2.2.2.2.2
  refine (V4_v30 m c).trans ?_
  funext i
  have hi : i = ix3 (i 0) (i 1) (i 2) := funext fun a => match a with | 0 => rfl | 1 => rfl | 2 => rfl
  rw [hi, e14, e15]
  refine Eq.trans ?_ (head_apply _ _ _ (refIt m' c 50) rfl (i 0) (i 1) (i 2)).symm
  pointwise
  have hw : projW (wts (bufsOf (V2 m)) c) ((i 1).val + 3) (st (bufsOf (V2 m)) c ((i 1).val + 3))
      = k1_pay23 (F := Ideal) ((refIt m' c (min ((i 1).val + 1) 50)).main_v10_18)
          (transpose S512x1000 [1, 0] (m ((c.tc : Thread Cert.KernelIdeal.nD Cert.KernelIdeal.τ).loc main_arg14) : FVec Ideal S1000x512 .f32) transposes_S1000x512_S512x1000_1_0)
          (shapeCast S1x1000 (m ((c.tc : Thread Cert.KernelIdeal.nD Cert.KernelIdeal.τ).loc main_arg15) : FVec Ideal S1000 .f32) shapeCasts_S1000_S1x1000) := by
    unfold projW
    rw [wave_at m m' hpre c h]
    have hl : (wts (bufsOf (V2 m)) c).wl = _ := V2_v27 m c
    have hb : (wts (bufsOf (V2 m)) c).bl = _ := V2_v28 m c
    rw [hl, hb]
    rfl
  have ht : (i 1).val < 50 := (i 1).isLt
  have hz : outA (bufsOf (V2 m)) c (ix3 (i 1) (i 0) (i 2))
      = projW (wts (bufsOf (V2 m)) c) ((i 1).val + 3) (st (bufsOf (V2 m)) c ((i 1).val + 3)) (ix3 (0 : Fin 1) (i 0) (i 2)) := by
    unfold outA
    refine congrArg _ (funext fun a => ?_)
    match a with
    | 0 => rfl
    | 1 => rfl
    | 2 => rfl
  refine hz.trans ((congrFun hw _).trans ((proj_apply _ _ _ (i 0) (i 2)).trans ?_))
  refine congrArg (· + _) (Finset.sum_congr rfl fun k _ => congrArg (· * _) ?_)
  refine Eq.trans ?_ (kept (R := refIt m' c) (fun _ => rfl) 50 le_rfl (ix3 (i 1) (i 0) k) ht).symm
  rw [Nat.min_eq_left (show (i 1).val + 1 ≤ 50 from ht)]
  refine congrArg _ (funext fun a => ?_)
  match a with
  | 0 => rfl
  | 1 => rfl

omit hpre h in
/-- The value claim. -/
theorem value : Cert.algebraic_KernelIdeal_ReferenceIdeal := by
  intro m g m' g' hpre h
  refine ⟨fun c => V4 m c (Proc.devRef .tc main_v30), fun c => V4 m c (Proc.devRef .tc main_v29_1), fun c => V4 m c (Proc.devRef .tc main_v29_2), ?_, ?_⟩
  · refine (θ_run Cert.KernelIdeal.defs _ _).mono ?_ (run_main (F := Ideal) m g (range_KernelIdeal m hpre))
    intro r hr c
    exact ⟨hr.1 c _ (mem_uc main_v30 (by decide)), hr.1 c _ (mem_uc main_v29_1 (by decide)), hr.1 c _ (mem_uc main_v29_2 (by decide)), QC_args m r hr c⟩
  · refine (θ_run Cert.ReferenceIdeal.defs _ _).mono ?_ (Cert.Proof.RefRun.run_iter m' g' (refIt m') (fun _ => rfl) (fun _ _ => rfl))
    intro r hr c
    exact ⟨(hr c).1.trans (heads_eq m m' hpre c (h c)).symm, (hr c).2.1.trans (hidden_eq m m' hpre c (h c)).symm, (hr c).2.2.1.trans (cells_eq m m' hpre c (h c)).symm, (hr c).2.2.2⟩

end Cert.Proof.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.Math
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Whole.frame_kernel, Whole.frame_kernelIdeal, Whole.frame_referenceIdeal, trivial, Whole.value⟩

end Cert.Proof

end
